-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "kill" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v7_0)) (v4 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v7_0) = v3 c
          ∧ r.2.mem ((c.tc : Thread Cert.KernelIdeal.nD Cert.KernelIdeal.τ).loc Cert.KernelIdeal.main_v7_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x256x12x3 : Shape := ⟨4, ![2, 256, 12, 3]⟩
abbrev S2x256 : Shape := ⟨2, ![2, 256]⟩
abbrev S12x32 : Shape := ⟨2, ![12, 32]⟩
abbrev S1x1x32 : Shape := ⟨3, ![1, 1, 32]⟩
abbrev S_ : Shape := ⟨0, ![]⟩

class Facts : Prop where
  bcast_S_S2x256x12x3 : S_.BroadcastsInDim S2x256x12x3 (![] : Fin 0 → Fin S2x256x12x3.rank)
  reducesTo_S2x256x12x3_S_d0_1_2_3 : S2x256x12x3.ReducesTo [0, 1, 2, 3] S_
  h_S_ : 0 < S_.numel

variable [Facts]

def fn {F : FTy → Type} [FloatOps F] (main_arg0 : FVec F S2x256x12x3 .f32) (main_arg1 : FVec F S2x256 .f32) (main_arg2 : FVec F S12x32 .f32) (main_arg3 : FVec F S1x1x32 .f32) (main_arg4 : FVec F S1x1x32 .f32) : IVec S_ 1 :=
  let main_v0 : FVec F S2x256x12x3 .f32 := Host.absf main_arg0
  let main_cst : FVec F S_ .f32 := constant S_ .f32 0x7F800000#32
  let main_v1 : FVec F S2x256x12x3 .f32 := broadcastInDim S2x256x12x3 ![] bcast_S_S2x256x12x3 main_cst
  let main_v2 : IVec S2x256x12x3 1 := cmpf .olt main_v0 main_v1
  let main_c : IVec S_ 1 := constantI S_ 1 1#1
  let main_v3 : IVec S_ 1 := (fun x v => Host.reduce IntOp.andi x v reducesTo_S2x256x12x3_S_d0_1_2_3 h_S_) main_v2 main_c
  main_v3
-- ==== Kernel.lean ====
abbrev S2x256x12x3 : Shape := ⟨4, ![2, 256, 12, 3]⟩
abbrev S2x256 : Shape := ⟨2, ![2, 256]⟩
abbrev S12x32 : Shape := ⟨2, ![12, 32]⟩
abbrev S1x1x32 : Shape := ⟨3, ![1, 1, 32]⟩
abbrev S2x3072x3 : Shape := ⟨3, ![2, 3072, 3]⟩
abbrev S2x256x1 : Shape := ⟨3, ![2, 256, 1]⟩
abbrev S2x256x12 : Shape := ⟨3, ![2, 256, 12]⟩
abbrev S2x3072 : Shape := ⟨2, ![2, 3072]⟩
abbrev S2x3x3072 : Shape := ⟨3, ![2, 3, 3072]⟩
abbrev S2x1x3072 : Shape := ⟨3, ![2, 1, 3072]⟩
abbrev S2x3072x1 : Shape := ⟨3, ![2, 3072, 1]⟩
abbrev S2x3072x32 : Shape := ⟨3, ![2, 3072, 32]⟩
abbrev S1x3x3072 : Shape := ⟨3, ![1, 3, 3072]⟩
abbrev S1x256x3 : Shape := ⟨3, ![1, 256, 3]⟩
abbrev S1x1x3072 : Shape := ⟨3, ![1, 1, 3072]⟩
abbrev S1x256x1 : Shape := ⟨3, ![1, 256, 1]⟩
abbrev S1x256x32 : Shape := ⟨3, ![1, 256, 32]⟩
abbrev S8x128 : Shape := ⟨2, ![8, 128]⟩
abbrev S1x3072 : Shape := ⟨2, ![1, 3072]⟩
abbrev S256x1 : Shape := ⟨2, ![256, 1]⟩
abbrev S256x3072 : Shape := ⟨2, ![256, 3072]⟩
abbrev S256x384 : Shape := ⟨2, ![256, 384]⟩
abbrev S256 : Shape := ⟨1, ![256]⟩
abbrev S1x12x1x32 : Shape := ⟨4, ![1, 12, 1, 32]⟩
abbrev S256x12x1x32 : Shape := ⟨4, ![256, 12, 1, 32]⟩
abbrev S3072x32 : Shape := ⟨2, ![3072, 32]⟩
abbrev S1x32 : Shape := ⟨2, ![1, 32]⟩
abbrev S1x3072x1 : Shape := ⟨3, ![1, 3072, 1]⟩
abbrev S1x3072x32 : Shape := ⟨3, ![1, 3072, 32]⟩
abbrev S3072x1 : Shape := ⟨2, ![3072, 1]⟩
abbrev S1 : Shape := ⟨1, ![1]⟩
abbrev S1x1 : Shape := ⟨2, ![1, 1]⟩
abbrev S32 : Shape := ⟨1, ![32]⟩

abbrev nBuf : Space → Nat
  | .hbm => 20
  | .vmem => 20
  | .smem => 0
  | _ => 0

abbrev bufTy : (tb : Table) → Fin (tcTables nBuf tb) → BufTy
  | .hbm, ⟨0, _⟩ => ⟨S2x256x12x3, .f32⟩
  | .hbm, ⟨1, _⟩ => ⟨S2x256, .f32⟩
  | .hbm, ⟨2, _⟩ => ⟨S12x32, .f32⟩
  | .hbm, ⟨3, _⟩ => ⟨S1x1x32, .f32⟩
  | .hbm, ⟨4, _⟩ => ⟨S1x1x32, .f32⟩
  | .hbm, ⟨5, _⟩ => ⟨S2x3072x3, .f32⟩
  | .hbm, ⟨6, _⟩ => ⟨S2x256x1, .f32⟩
  | .hbm, ⟨7, _⟩ => ⟨S2x256x12, .f32⟩
  | .hbm, ⟨8, _⟩ => ⟨S2x3072, .f32⟩
  | .hbm, ⟨9, _⟩ => ⟨S2x3x3072, .f32⟩
  | .hbm, ⟨10, _⟩ => ⟨S2x1x3072, .f32⟩
  | .hbm, ⟨11, _⟩ => ⟨S2x3072x1, .f32⟩
  | .hbm, ⟨12, _⟩ => ⟨S2x3072x32, .f32⟩
  | .hbm, ⟨13, _⟩ => ⟨S2x3072x32, .i32⟩
  | .hbm, ⟨14, _⟩ => ⟨S1x12x1x32, .f32⟩
  | .hbm, ⟨15, _⟩ => ⟨S256x12x1x32, .f32⟩
  | .hbm, ⟨16, _⟩ => ⟨S3072x32, .f32⟩
  | .hbm, ⟨17, _⟩ => ⟨S1x32, .f32⟩
  | .hbm, ⟨18, _⟩ => ⟨S1x32, .f32⟩
  | .hbm, ⟨19, _⟩ => ⟨S2x3072x32, .f32⟩
  | .local _ .vmem, ⟨0, _⟩ => ⟨S1x3x3072, .f32⟩
  | .local _ .vmem, ⟨1, _⟩ => ⟨S1x3x3072, .f32⟩
  | .local _ .vmem, ⟨2, _⟩ => ⟨S1x256x3, .f32⟩
  | .local _ .vmem, ⟨3, _⟩ => ⟨S1x256x3, .f32⟩
  | .local _ .vmem, ⟨4, _⟩ => ⟨S1x1x3072, .f32⟩
  | .local _ .vmem, ⟨5, _⟩ => ⟨S1x1x3072, .f32⟩
  | .local _ .vmem, ⟨6, _⟩ => ⟨S1x256x1, .f32⟩
  | .local _ .vmem, ⟨7, _⟩ => ⟨S1x256x1, .f32⟩
  | .local _ .vmem, ⟨8, _⟩ => ⟨S1x256x32, .f32⟩
  | .local _ .vmem, ⟨9, _⟩ => ⟨S1x256x32, .f32⟩
  | .local _ .vmem, ⟨10, _⟩ => ⟨S1x256x32, .i32⟩
  | .local _ .vmem, ⟨11, _⟩ => ⟨S1x256x32, .i32⟩
  | .local _ .vmem, ⟨12, _⟩ => ⟨S8x128, .f32⟩
  | .local _ .vmem, ⟨13, _⟩ => ⟨S3072x32, .f32⟩
  | .local _ .vmem, ⟨14, _⟩ => ⟨S1x3072x1, .f32⟩
  | .local _ .vmem, ⟨15, _⟩ => ⟨S1x3072x1, .f32⟩
  | .local _ .vmem, ⟨16, _⟩ => ⟨S1x32, .f32⟩
  | .local _ .vmem, ⟨17, _⟩ => ⟨S1x32, .f32⟩
  | .local _ .vmem, ⟨18, _⟩ => ⟨S1x3072x32, .f32⟩
  | .local _ .vmem, ⟨19, _⟩ => ⟨S1x3072x32, .f32⟩
  | _, _ => ⟨S2x256x12x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x32 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S3072x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x3072x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x3072x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "kill" => some ⊤
  | _ => none
-- ==== ReferenceIdeal.lean ====
abbrev S2x256x12x3 : Shape := ⟨4, ![2, 256, 12, 3]⟩
abbrev S2x256 : Shape := ⟨2, ![2, 256]⟩
abbrev S12x32 : Shape := ⟨2, ![12, 32]⟩
abbrev S1x1x32 : Shape := ⟨3, ![1, 1, 32]⟩
abbrev S2x3072x3 : Shape := ⟨3, ![2, 3072, 3]⟩
abbrev S2x256x1 : Shape := ⟨3, ![2, 256, 1]⟩
abbrev S2x256x12 : Shape := ⟨3, ![2, 256, 12]⟩
abbrev S2x3072 : Shape := ⟨2, ![2, 3072]⟩
abbrev S3072 : Shape := ⟨1, ![3072]⟩
abbrev S_ : Shape := ⟨0, ![]⟩
abbrev S3072x1 : Shape := ⟨2, ![3072, 1]⟩
abbrev S1 : Shape := ⟨1, ![1]⟩
abbrev S1x1 : Shape := ⟨2, ![1, 1]⟩
abbrev S3072x32 : Shape := ⟨2, ![3072, 32]⟩
abbrev S1x3072x32 : Shape := ⟨3, ![1, 3072, 32]⟩
abbrev S2x3072x32 : Shape := ⟨3, ![2, 3072, 32]⟩
abbrev S2x3072x1 : Shape := ⟨3, ![2, 3072, 1]⟩
abbrev S2x1 : Shape := ⟨2, ![2, 1]⟩
abbrev S2x1x1 : Shape := ⟨3, ![2, 1, 1]⟩
abbrev S2x32 : Shape := ⟨2, ![2, 32]⟩
abbrev S2x1x32 : Shape := ⟨3, ![2, 1, 32]⟩
abbrev S2x1x3072 : Shape := ⟨3, ![2, 1, 3072]⟩
abbrev S2x3072x3072 : Shape := ⟨3, ![2, 3072, 3072]⟩
abbrev S2x1x3072x3 : Shape := ⟨4, ![2, 1, 3072, 3]⟩
abbrev S2x3072x1x3 : Shape := ⟨4, ![2, 3072, 1, 3]⟩
abbrev S2x3072x3072x3 : Shape := ⟨4, ![2, 3072, 3072, 3]⟩

abbrev nBuf : Space → Nat
  | .hbm => 143
  | .vmem => 0
  | .smem => 0
  | _ => 0

abbrev hbmTy0_0 (i : Nat) : BufTy := match i % 128 with
  | 0 => ⟨S2x256x12x3, .f32⟩
  | 1 => ⟨S2x256, .f32⟩
  | 2 => ⟨S12x32, .f32⟩
  | 3 => ⟨S1x1x32, .f32⟩
  | 4 => ⟨S1x1x32, .f32⟩
  | 5 => ⟨S2x3072x3, .f32⟩
  | 6 => ⟨S2x256x1, .f32⟩
  | 7 => ⟨S2x256x12, .f32⟩
  | 8 => ⟨S2x3072, .f32⟩
  | 9 => ⟨S3072, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S3072, .i32⟩
  | 17 => ⟨S3072, .i32⟩
  | 18 => ⟨S_, .i32⟩
  | 19 => ⟨S3072, .i32⟩
  | 20 => ⟨S3072, .i1⟩
  | 21 => ⟨S_, .i32⟩
  | 22 => ⟨S3072, .i32⟩
  | 23 => ⟨S3072, .i1⟩
  | 24 => ⟨S_, .i32⟩
  | 25 => ⟨S_, .i1⟩
  | 26 => ⟨S3072, .i1⟩
  | 27 => ⟨S3072, .i1⟩
  | 28 => ⟨S3072, .i1⟩
  | 29 => ⟨S3072, .i32⟩
  | 30 => ⟨S3072, .i32⟩
  | 31 => ⟨S3072, .i32⟩
  | 32 => ⟨S_, .i32⟩
  | 33 => ⟨S3072, .i32⟩
  | 34 => ⟨S3072, .i1⟩
  | 35 => ⟨S_, .i32⟩
  | 36 => ⟨S3072, .i32⟩
  | 37 => ⟨S3072, .i32⟩
  | 38 => ⟨S3072, .i32⟩
  | 39 => ⟨S3072x1, .i32⟩
  | 40 => ⟨S1, .i32⟩
  | 41 => ⟨S_, .i32⟩
  | 42 => ⟨S3072x1, .i32⟩
  | 43 => ⟨S3072x1, .i1⟩
  | 44 => ⟨S1x1, .i32⟩
  | 45 => ⟨S3072x1, .i32⟩
  | 46 => ⟨S3072x1, .i1⟩
  | 47 => ⟨S3072x1, .i1⟩
  | 48 => ⟨S_, .i1⟩
  | 49 => ⟨S3072, .i1⟩
  | 50 => ⟨S3072x32, .f32⟩
  | 51 => ⟨S3072x32, .i1⟩
  | 52 => ⟨S_, .f32⟩
  | 53 => ⟨S3072x32, .f32⟩
  | 54 => ⟨S3072x32, .f32⟩
  | 55 => ⟨S1x3072x32, .f32⟩
  | 56 => ⟨S2x3072x32, .f32⟩
  | 57 => ⟨S2x3072x1, .f32⟩
  | 58 => ⟨S2x3072x32, .f32⟩
  | 59 => ⟨S2x3072x32, .f32⟩
  | 60 => ⟨S2x3072x1, .f32⟩
  | 61 => ⟨S2x3072x32, .f32⟩
  | 62 => ⟨S2x3072x32, .f32⟩
  | 63 => ⟨S_, .f32⟩
  | 64 => ⟨S2x1, .f32⟩
  | 65 => ⟨S2x1x1, .f32⟩
  | 66 => ⟨S_, .f32⟩
  | 67 => ⟨S2x1x1, .f32⟩
  | 68 => ⟨S2x1x1, .i1⟩
  | 69 => ⟨S_, .f32⟩
  | 70 => ⟨S_, .f32⟩
  | 71 => ⟨S2x1x1, .f32⟩
  | 72 => ⟨S2x1x1, .f32⟩
  | 73 => ⟨S_, .f32⟩
  | 74 => ⟨S2x32, .f32⟩
  | 75 => ⟨S2x1x32, .f32⟩
  | 76 => ⟨S2x1x32, .f32⟩
  | 77 => ⟨S2x1x32, .f32⟩
  | 78 => ⟨S2x3072x32, .f32⟩
  | 79 => ⟨S2x3072x32, .f32⟩
  | 80 => ⟨S2x3072x32, .f32⟩
  | 81 => ⟨S_, .f32⟩
  | 82 => ⟨S2x32, .f32⟩
  | 83 => ⟨S2x1x32, .f32⟩
  | 84 => ⟨S2x1x32, .f32⟩
  | 85 => ⟨S2x1x32, .f32⟩
  | 86 => ⟨S_, .f32⟩
  | 87 => ⟨S2x1x32, .f32⟩
  | 88 => ⟨S2x1x32, .f32⟩
  | 89 => ⟨S2x1x32, .f32⟩
  | 90 => ⟨S2x3072x32, .f32⟩
  | 91 => ⟨S2x3072x32, .f32⟩
  | 92 => ⟨S2x3072x32, .f32⟩
  | 93 => ⟨S2x3072x32, .f32⟩
  | 94 => ⟨S2x3072x32, .f32⟩
  | 95 => ⟨S2x3072x32, .f32⟩
  | 96 => ⟨S2x3072x32, .f32⟩
  | 97 => ⟨S2x3072x32, .f32⟩
  | 98 => ⟨S2x3072x32, .f32⟩
  | 99 => ⟨S2x3072x32, .f32⟩
  | 100 => ⟨S2x1x3072, .f32⟩
  | 101 => ⟨S2x3072x1, .f32⟩
  | 102 => ⟨S2x3072x3072, .f32⟩
  | 103 => ⟨S2x3072x3072, .f32⟩
  | 104 => ⟨S2x3072x3072, .f32⟩
  | 105 => ⟨S2x1x3072x3, .f32⟩
  | 106 => ⟨S2x3072x1x3, .f32⟩
  | 107 => ⟨S2x3072x3072x3, .f32⟩
  | 108 => ⟨S2x3072x3072x3, .f32⟩
  | 109 => ⟨S2x3072x3072x3, .f32⟩
  | 110 => ⟨S2x3072x3072x3, .f32⟩
  | 111 => ⟨S_, .f32⟩
  | 112 => ⟨S2x3072x3072, .f32⟩
  | 113 => ⟨S_, .f32⟩
  | 114 => ⟨S2x3072x3072, .f32⟩
  | 115 => ⟨S2x3072x3072, .f32⟩
  | 116 => ⟨S2x3072x3072, .f32⟩
  | 117 => ⟨S2x3072x3072, .f32⟩
  | 118 => ⟨S_, .f32⟩
  | 119 => ⟨S2x3072x3072, .f32⟩
  | 120 => ⟨S2x3072x3072, .f32⟩
  | 121 => ⟨S_, .f32⟩
  | 122 => ⟨S2x3072x3072, .f32⟩
  | 123 => ⟨S2x3072x3072, .f32⟩
  | 124 => ⟨S2x3072x3072, .f32⟩
  | 125 => ⟨S2x3072x3072, .f32⟩
  | 126 => ⟨S2x3072x32, .f32⟩
  | 127 => ⟨S2x3072x32, .i32⟩
  | _ => ⟨S2x256x12x3, .f32⟩

abbrev hbmTy0_1 (i : Nat) : BufTy := match i % 128 with
  | 0 => ⟨S2x3072x32, .f32⟩
  | 1 => ⟨S_, .f32⟩
  | 2 => ⟨S2x3072, .f32⟩
  | 3 => ⟨S2x3072, .i1⟩
  | 4 => ⟨S2x3072x1, .i1⟩
  | 5 => ⟨S_, .i32⟩
  | 6 => ⟨S_, .i32⟩
  | 7 => ⟨S2x3072x32, .i1⟩
  | 8 => ⟨S2x3072x32, .i32⟩
  | 9 => ⟨S2x3072x32, .i32⟩
  | 10 => ⟨S_, .f32⟩
  | 11 => ⟨S_, .f32⟩
  | 12 => ⟨S2x3072x32, .i1⟩
  | 13 => ⟨S2x3072x32, .f32⟩
  | 14 => ⟨S2x3072x32, .f32⟩
  | _ => ⟨S2x256x12x3, .f32⟩

abbrev hbmTy (i : Nat) : BufTy := match i / 128 with
  | 0 => hbmTy0_0 i
  | 1 => hbmTy0_1 i
  | _ => ⟨S2x256x12x3, .f32⟩

abbrev bufTy : (tb : Table) → Fin (tcTables nBuf tb) → BufTy
  | .hbm, ⟨i, _⟩ => hbmTy i
  | _, _ => ⟨S2x256x12x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v5 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_cst : Ref sig .tc := ⟨.hbm, 63, rfl⟩
abbrev main_v15 : Ref sig .tc := ⟨.hbm, 64, rfl⟩
abbrev main_v16 : Ref sig .tc := ⟨.hbm, 65, rfl⟩
abbrev main_cst_0 : Ref sig .tc := ⟨.hbm, 66, rfl⟩
abbrev main_v17 : Ref sig .tc := ⟨.hbm, 67, rfl⟩
abbrev main_v18 : Ref sig .tc := ⟨.hbm, 68, rfl⟩
abbrev main_cst_1 : Ref sig .tc := ⟨.hbm, 69, rfl⟩
abbrev main_call2_v0 : Ref sig .tc := ⟨.hbm, 70, rfl⟩
abbrev main_call2_v1 : Ref sig .tc := ⟨.hbm, 71, rfl⟩
abbrev main_v19 : Ref sig .tc := ⟨.hbm, 72, rfl⟩
abbrev main_cst_2 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_cst_3 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_cst_4 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_5 : Ref sig .tc := ⟨.hbm, 111, rfl⟩
abbrev main_v55 : Ref sig .tc := ⟨.hbm, 112, rfl⟩
abbrev main_cst_6 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_7 : Ref sig .tc := ⟨.hbm, 118, rfl⟩
abbrev main_v60 : Ref sig .tc := ⟨.hbm, 119, rfl⟩
abbrev main_v61 : Ref sig .tc := ⟨.hbm, 120, rfl⟩
abbrev main_cst_8 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_values : Ref sig .tc := ⟨.hbm, 126, rfl⟩
abbrev main_indices : Ref sig .tc := ⟨.hbm, 127, rfl⟩
abbrev main_v66 : Ref sig .tc := ⟨.hbm, 128, rfl⟩
abbrev main_cst_9 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_c_10 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_v70 : Ref sig .tc := ⟨.hbm, 137, rfl⟩
abbrev main_cst_11 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_v71 : Ref sig .tc := ⟨.hbm, 142, rfl⟩

abbrev nD : Nat := 1
abbrev τ : Topo := Topo.v7x

variable {F : FTy → Type} [FloatOps F]
-- ==== Proof.Parts.lean ====
module

public import proofs.«01_k».proof.Proof.Gen.ReferenceIdeal.Run
public import proofs.«01_k».proof.Proof.Gen.KernelIdeal.Frame
public import proofs.«01_k».proof.Proof.Gen.Kernel.Frame
public import proofs.«01_k».proof.Proof.Gen.Pre_finite
public import proofs.«01_k».proof.Defs

/-!
# The claims that do not compare values
-/

@[expose] public section
noncomputable section
namespace Cert.Parts
open Idealize.ShloMosaic Idealize.SL.Sem

/-- The constant is replaced by the value it stands for. -/
theorem preserves : Cert.preserves_Kernel_KernelIdeal :=
  IdealRules.named_const.statement Cert.KernelIdeal.κ "kill" .f32 0x7F61B1E6#32 ⊤ rfl

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem frame_reference_finite : Cert.quiescent_ReferenceIdeal_pre_finite := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

end Cert.Parts
-- ==== Proof.Launch.lean ====
module

public import proofs.«01_k».proof.Proof.Gen.KernelIdeal.Frame
public import Idealize.ShloMosaic.Lib.Pointwise
public import Idealize.ShloMosaic.Lib.Pipeline.ValueKit
public import Idealize.ShloMosaic.Lib.StableHlo.ReadAt

/-!
# The kernel's run, with the contents of every buffer at the end
-/

@[expose] public section
set_option maxRecDepth 16384
noncomputable section
namespace Cert.KernelIdeal.Final
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends at the contents that the chain of items gives it. -/
theorem run : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

theorem W4_v0 (c : Dev nD) : W4 m ρ c (Proc.devRef .tc main_v0) = W1 m ρ c (Proc.devRef .tc main_v0) :=
  (W4_of m ρ c main_v0 (by decide +kernel)).trans ((W3_of m ρ c main_v0 (by decide +kernel)).trans
    (W2_of m ρ c main_v0 (by decide +kernel)))

theorem W4_v3 (c : Dev nD) : W4 m ρ c (Proc.devRef .tc main_v3) = W1 m ρ c (Proc.devRef .tc main_v3) :=
  (W4_of m ρ c main_v3 (by decide +kernel)).trans ((W3_of m ρ c main_v3 (by decide +kernel)).trans
    (W2_of m ρ c main_v3 (by decide +kernel)))

theorem W4_vals (c : Dev nD) : W4 m ρ c (Proc.devRef .tc main_v7_0) = (dat0 (V1 m ρ) c).arrAt 4 cfg0.N :=
  (W4_of m ρ c main_v7_0 (by decide +kernel)).trans ((W3_of m ρ c main_v7_0 (by decide +kernel)).trans
    (W2_arr m ρ c 4))

theorem W4_idx (c : Dev nD) : W4 m ρ c (Proc.devRef .tc main_v7_1) = (dat0 (V1 m ρ) c).arrAt 5 cfg0.N :=
  (W4_of m ρ c main_v7_1 (by decide +kernel)).trans ((W3_of m ρ c main_v7_1 (by decide +kernel)).trans
    (W2_arr m ρ c 5))

theorem W4_encode (c : Dev nD) : W4 m ρ c (Proc.devRef .tc main_v13) = (dat1 (V3 m ρ) c).arrAt 4 cfg1.N :=
  W4_arr m ρ c 4

theorem W1_v0 (c : Dev nD) : W1 m ρ c (Proc.devRef .tc main_v0) =
    shapeCast _ (m ((c.tc : Thread nD τ).loc main_arg0)) shapeCasts_S2x256x12x3_S2x3072x3 := by
  unfold W1; after_results_simp <;> rfl

theorem W1_v3 (c : Dev nD) : W1 m ρ c (Proc.devRef .tc main_v3) =
    shapeCast _ (broadcastInDim S2x256x12 ![0, 1, 2] bcast_S2x256x1_S2x256x12_0_1_2 (broadcastInDim S2x256x1 ![0, 1] bcast_S2x256_S2x256x1_0_1 (m ((c.tc : Thread nD τ).loc main_arg1)))) shapeCasts_S2x256x12_S2x3072 := by
  unfold W1; after_results_simp <;> rfl

theorem W1_v4 (c : Dev nD) : W1 m ρ c (Proc.devRef .tc main_v4) =
    transpose S2x3x3072 [0, 2, 1] (W1 m ρ c (Proc.devRef .tc main_v0)) transposes_S2x3072x3_S2x3x3072_0_2_1 := by
  unfold W1; after_results_simp <;> rfl

theorem W1_v5 (c : Dev nD) : W1 m ρ c (Proc.devRef .tc main_v5) =
    broadcastInDim S2x1x3072 ![0, 2] bcast_S2x3072_S2x1x3072_0_2 (W1 m ρ c (Proc.devRef .tc main_v3)) := by
  unfold W1; after_results_simp <;> rfl

theorem W1_v6 (c : Dev nD) : W1 m ρ c (Proc.devRef .tc main_v6) =
    broadcastInDim S2x3072x1 ![0, 1] bcast_S2x3072_S2x3072x1_0_1 (W1 m ρ c (Proc.devRef .tc main_v3)) := by
  unfold W1; after_results_simp <;> rfl

theorem W3_v6 (c : Dev nD) : W3 m ρ c (Proc.devRef .tc main_v6) = W1 m ρ c (Proc.devRef .tc main_v6) :=
  (W3_of m ρ c main_v6 (by decide +kernel)).trans (W2_of m ρ c main_v6 (by decide +kernel))

theorem W3_v10 (c : Dev nD) : W3 m ρ c (Proc.devRef .tc main_v10) =
    shapeCast _ (broadcastInDim S256x12x1x32 ![0, 1, 2, 3] bcast_S1x12x1x32_S256x12x1x32_0_1_2_3
      (shapeCast S1x12x1x32 (W2 m ρ c (Proc.devRef .tc main_arg2)) shapeCasts_S12x32_S1x12x1x32)) shapeCasts_S256x12x1x32_S3072x32 := by
  unfold W3; after_results_simp <;> rfl

theorem W3_v11 (c : Dev nD) : W3 m ρ c (Proc.devRef .tc main_v11) =
    shapeCast _ (W2 m ρ c (Proc.devRef .tc main_arg3)) shapeCasts_S1x1x32_S1x32 := by
  unfold W3; after_results_simp <;> rfl

theorem W3_v12 (c : Dev nD) : W3 m ρ c (Proc.devRef .tc main_v12) =
    shapeCast _ (W2 m ρ c (Proc.devRef .tc main_arg4)) shapeCasts_S1x1x32_S1x32 := by
  unfold W3; after_results_simp <;> rfl

/-- The coordinates, one row per atom. -/
def coords (A : S2x256x12x3.Idx → EReal) : S2x3072x3.Idx → EReal :=
  shapeCast _ A shapeCasts_S2x256x12x3_S2x3072x3

/-- The masks, one per atom. -/
def masks (A : S2x256.Idx → EReal) : S2x3072.Idx → EReal :=
  shapeCast _ (broadcastInDim S2x256x12 ![0, 1, 2] bcast_S2x256x1_S2x256x12_0_1_2
    (broadcastInDim S2x256x1 ![0, 1] bcast_S2x256_S2x256x1_0_1 A)) shapeCasts_S2x256x12_S2x3072

end Cert.KernelIdeal.Final
-- ==== Proof.Rounds.lean ====
module

public import proofs.«01_k».proof.Proof.Gen.KernelIdeal.Frame
public import Idealize.ShloMosaic.Lib.SortNet.OddEven
public import Idealize.ShloMosaic.Lib.WritesUnit
public import Idealize.ShloMosaic.Lib.Pointwise

/-!
# The body of the neighbour kernel as a recursion over its rounds

The printed body is unrolled. Here it is written with a sorting network given by its list of
comparators and one function for a round, and the generated stores are shown to be those of the
recursion.
-/

@[expose] public section
noncomputable section
namespace Cert.KernelIdeal.Rounds
open Idealize.ShloMosaic Idealize.SL.Sem Idealize.ShloMosaic.SortNet
open Cert.KernelIdeal.Gen

variable {F : FTy → Type} [FloatOps F] [Named F]

/-- The eight registers of every column: distances and positions. -/
abbrev State (F : FTy → Type) := Fin 8 → FVec F S256x384 .f32 × IVec S256x384 32

/-- Does the first entry come after the second. -/
def after (p q : FVec F S256x384 .f32 × IVec S256x384 32) : IVec S256x384 1 :=
  ori (cmpf .ogt p.1 q.1) (andi (cmpf .oeq p.1 q.1) (cmpi .sgt p.2 q.2))

/-- Compare and exchange: register `a` gets the earlier entry, register `b` the later one. -/
def exchange (s : State F) (c : Cmpx 8) : State F := fun g =>
  if g = c.hi then
    (select (after (s c.hi) (s c.lo)) (s c.lo).1 (s c.hi).1,
      select (after (s c.hi) (s c.lo)) (s c.lo).2 (s c.hi).2)
  else if g = c.lo then
    (select (after (s c.hi) (s c.lo)) (s c.hi).1 (s c.lo).1,
      select (after (s c.hi) (s c.lo)) (s c.hi).2 (s c.lo).2)
  else s g

/-- The nineteen comparators of the body, the earlier register in `hi`. -/
def net : Network 8 :=
  [⟨1, 0, by decide⟩, ⟨3, 2, by decide⟩, ⟨5, 4, by decide⟩, ⟨7, 6, by decide⟩,
    ⟨2, 0, by decide⟩, ⟨3, 1, by decide⟩, ⟨6, 4, by decide⟩, ⟨7, 5, by decide⟩,
    ⟨2, 1, by decide⟩, ⟨6, 5, by decide⟩, ⟨4, 0, by decide⟩, ⟨5, 1, by decide⟩,
    ⟨6, 2, by decide⟩, ⟨7, 3, by decide⟩, ⟨4, 2, by decide⟩, ⟨5, 3, by decide⟩,
    ⟨2, 1, by decide⟩, ⟨4, 3, by decide⟩, ⟨6, 5, by decide⟩]

theorem net_eq : net = oddEvenNet 3 := by rw [oddEvenNet_three_eq]; rfl

/-- Every column sorted. -/
def sorted (s : State F) : State F := net.foldl exchange s

/-- The smallest head of each row. -/
def rowMin (s : State F) : FVec F S256x1 .f32 :=
  shapeCast S256x1 (multiReduction .minimumf [1] S256 (s 0).1 0x7F800000#32 reduces_S256x384_S256 (.inl rfl) rfl)
    shapeCasts_S256_S256x1

/-- The position of every head equal to the smallest one, and a large number elsewhere. -/
def cand (s : State F) : IVec S256x384 32 :=
  select (cmpf .oeq (s 0).1 (broadcastTo S256x384 (rowMin s) broadcasts_S256x1_S256x384)) (s 0).2
    (broadcast S256x384 6144#32)

/-- The lowest of those positions. -/
def first (s : State F) : IVec S256x1 32 :=
  shapeCast S256x1 (multiReductionI .minsi [1] S256 (cand s) 2147483647#32 reduces_S256x384_S256 rfl)
    shapeCasts_S256_S256x1

/-- The column that offered it. -/
def sel (s : State F) : IVec S256x384 1 :=
  cmpi .eq (cand s) (broadcastTo S256x384 (first s) broadcasts_S256x1_S256x384)

/-- The chosen column shifted up by one, from register `h` into register `g`. -/
def up (s : State F) (g h : Fin 8) : FVec F S256x384 .f32 × IVec S256x384 32 :=
  (select (sel s) (s h).1 (s g).1, select (sel s) (s h).2 (s g).2)

/-- One round. -/
def step (s : State F) : State F :=
  ![up s 0 1, up s 1 2, up s 2 3, up s 3 4, up s 4 5, up s 5 6, up s 6 7,
    (select (sel s) (broadcast S256x384 (Named.named κ "kill" 0x7F61B1E6#32)) (s 7).1, (s 7).2)]

/-- The state after `t` rounds. -/
def St (s : State F) : ℕ → State F
  | 0 => s
  | t + 1 => step (St s t)

theorem inb (t : ℕ) (h : t < 32) : ∀ a, ![0, 0, t] a + S1x256x1.size a ≤ S1x256x32.size a := by
  intro a; fin_cases a <;> simp <;> omega

/-- What a round stores among the distances. -/
def outV (pad : IVec S256x1 1) (s : State F) : FVec F S1x256x1 .f32 :=
  shapeCast S1x256x1 (select pad (broadcast S256x1 (Scalar.ofBits .f32 0x49742400#32)) (rowMin s))
    shapeCasts_S256x1_S1x256x1

/-- What a round stores among the positions. -/
def outI (pad : IVec S256x1 1) (s : State F) : IVec S1x256x1 32 :=
  shapeCast S1x256x1 (select pad (broadcast S256x1 0#32) (first s)) shapeCasts_S256x1_S1x256x1

/-- The stores of the distances of the first `n` rounds, the last one first. -/
def piecesV (pad : IVec S256x1 1) (s : State F) : (n : ℕ) → n ≤ 32 → List (View.Piece (Elt F) S1x256x32 .f32)
  | 0, _ => []
  | n + 1, h => ⟨Rect.unit (s := S1x256x32) ![0, 0, n] S1x256x1.size (inb n h), outV pad (St s n)⟩ ::
      piecesV pad s n (Nat.le_of_succ_le h)

/-- The stores of the positions of the first `n` rounds, the last one first. -/
def piecesI (pad : IVec S256x1 1) (s : State F) : (n : ℕ) → n ≤ 32 → List (View.Piece (Elt F) S1x256x32 .i32)
  | 0, _ => []
  | n + 1, h => ⟨Rect.unit (s := S1x256x32) ![0, 0, n] S1x256x1.size (inb n h), outI pad (St s n)⟩ ::
      piecesI pad s n (Nat.le_of_succ_le h)

/-- The registers before sorting: eight groups of columns. -/
def start (d : FVec F S256x3072 .f32) (v30 : FVec F S1x3072 .f32) (v32 : FVec F S256x1 .f32) : State F :=
  ![(k0_pay6 d v30 v32, k0_pay14), (k0_pay7 d v30 v32, k0_pay15), (k0_pay8 d v30 v32, k0_pay16),
    (k0_pay9 d v30 v32, k0_pay17), (k0_pay10 d v30 v32, k0_pay18), (k0_pay11 d v30 v32, k0_pay19),
    (k0_pay12 d v30 v32, k0_pay20), (k0_pay13 d v30 v32, k0_pay21)]

section
variable (c : Dev nD) (i : grid0.Coords) (arg2 : Memref sig .tc .vmem S1x3x3072 .f32) (harg2 : arg2.IsWhole)
  (arg3 : Memref sig .tc .vmem S1x256x3 .f32) (harg3 : arg3.IsWhole)
  (arg4 : Memref sig .tc .vmem S1x1x3072 .f32) (harg4 : arg4.IsWhole)
  (arg5 : Memref sig .tc .vmem S1x256x1 .f32) (harg5 : arg5.IsWhole)
  (arg6 : Memref sig .tc .vmem S1x256x32 .f32) (harg6 : arg6.IsWhole)
  (arg7 : Memref sig .tc .vmem S1x256x32 .i32) (harg7 : arg7.IsWhole)
  (arg8 : Memref sig .tc .vmem S8x128 .f32) (harg8 : arg8.IsWhole)
  (x0 : Vec F S1x3x3072 .f32) (x1 : Vec F S1x256x3 .f32) (x2 : Vec F S1x1x3072 .f32) (x3 : Vec F S1x256x1 .f32)

/-- The sorted registers the rounds start from, over the staged blocks as the body reads them. -/
def startRaw : State F :=
  sorted (start
    (k0_pay1 (View.readAt (Elt F) arg2.view (Rect.unit (s := S1x3x3072) ![0, 0, 0] S1x1x3072.size inb_S1x3x3072_S1x1x3072_0_0_0).toLoadRect (harg2.unread x0))
      (View.readAt (Elt F) arg2.view (Rect.unit (s := S1x3x3072) ![0, 1, 0] S1x1x3072.size inb_S1x3x3072_S1x1x3072_0_1_0).toLoadRect (harg2.unread x0))
      (View.readAt (Elt F) arg2.view (Rect.unit (s := S1x3x3072) ![0, 2, 0] S1x1x3072.size inb_S1x3x3072_S1x1x3072_0_2_0).toLoadRect (harg2.unread x0))
      (View.readAt (Elt F) arg3.view (Rect.unit (s := S1x256x3) ![0, 0, 0] S1x256x1.size inb_S1x256x3_S1x256x1_0_0_0).toLoadRect (harg3.unread x1))
      (View.readAt (Elt F) arg3.view (Rect.unit (s := S1x256x3) ![0, 0, 1] S1x256x1.size inb_S1x256x3_S1x256x1_0_0_1).toLoadRect (harg3.unread x1))
      (View.readAt (Elt F) arg3.view (Rect.unit (s := S1x256x3) ![0, 0, 2] S1x256x1.size inb_S1x256x3_S1x256x1_0_0_2).toLoadRect (harg3.unread x1)))
    (k0_pay2 (View.readAt (Elt F) arg4.view (Rect.unit (s := S1x1x3072) ![0, 0, 0] S1x1x3072.size inb_S1x1x3072_S1x1x3072_0_0_0).toLoadRect (harg4.unread x2)))
    (k0_pay3 (View.readAt (Elt F) arg5.view (Rect.unit (s := S1x256x1) ![0, 0, 0] S1x256x1.size inb_S1x256x1_S1x256x1_0_0_0).toLoadRect (harg5.unread x3))))

/-- Which rows are padding. -/
def padRaw : IVec S256x1 1 :=
  k0_pay5 (F := F) (View.readAt (Elt F) arg5.view (Rect.unit (s := S1x256x1) ![0, 0, 0] S1x256x1.size inb_S1x256x1_S1x256x1_0_0_0).toLoadRect (harg5.unread x3))

theorem run_vals :
    (kernelRun0_A c i arg2 harg2 arg3 harg3 arg4 harg4 arg5 harg5 arg6 harg6 arg7 harg7 arg8 harg8 x0 x1 x2 x3).1 =
      piecesV (padRaw arg5 harg5 x3)
        (startRaw arg2 harg2 arg3 harg3 arg4 harg4 arg5 harg5 x0 x1 x2 x3) 32 le_rfl := by
  sl_kernel_rfl

theorem run_idx :
    (kernelRun0_A c i arg2 harg2 arg3 harg3 arg4 harg4 arg5 harg5 arg6 harg6 arg7 harg7 arg8 harg8 x0 x1 x2 x3).2.1 =
      piecesI (padRaw arg5 harg5 x3)
        (startRaw arg2 harg2 arg3 harg3 arg4 harg4 arg5 harg5 x0 x1 x2 x3) 32 le_rfl := by
  sl_kernel_rfl
end

end Cert.KernelIdeal.Rounds
-- ==== Proof.Select.lean ====
module

public import Idealize.ShloMosaic.Lib.SortNet.OddEven
public import Idealize.ShloMosaic.Lib.SortNet.Keyed
public import Idealize.ShloMosaic.Lib.SortFacts
public import Idealize.ShloMosaic.Lib.Pointwise

/-!
# Popping the smallest entries of one row from sorted columns

A row of 3072 distances is laid out as 384 columns of 8 entries, each entry a distance together with
its position. The columns are sorted once; then every round takes the smallest head (the lowest
position among equal distances) and shifts that one column up. This file proves, for a row of values
below `⊤`, that the rounds enumerate the positions in increasing order of (distance, position).
-/

@[expose] public section
noncomputable section
namespace Cert.Nearest
open Idealize.ShloMosaic Idealize.ShloMosaic.SortNet

/-- A distance with the word of its position. -/
abbrev Entry := EReal × BitVec 32

/-- Entries are compared by distance, then by position. -/
def key (e : Entry) : Lex (EReal × ℤ) := toLex (e.1, e.2.toInt)

theorem key_injective : Function.Injective key := by
  rintro ⟨a, i⟩ ⟨b, j⟩ h
  have h' := congrArg ofLex h
  simp only [key, ofLex_toLex, Prod.mk.injEq] at h'
  exact Prod.ext h'.1 (BitVec.eq_of_toInt_eq h'.2)

theorem key_lt_iff (a b : Entry) :
    key a < key b ↔ a.1 < b.1 ∨ (a.1 = b.1 ∧ a.2.toInt < b.2.toInt) := Prod.Lex.toLex_lt_toLex

theorem key_le_iff (a b : Entry) :
    key a ≤ key b ↔ a.1 < b.1 ∨ (a.1 = b.1 ∧ a.2.toInt ≤ b.2.toInt) := Prod.Lex.toLex_le_toLex

/-- The word of a small number reads back as that number. -/
theorem toInt_word {n : ℕ} (h : n < 10000) : (BitVec.ofNat 32 n).toInt = (n : ℤ) := by
  have hn : (BitVec.ofNat 32 n).toNat = n := by
    rw [BitVec.toNat_ofNat]; exact Nat.mod_eq_of_lt (by omega)
  rw [BitVec.toInt_eq_toNat_of_lt (by rw [hn]; omega), hn]

variable (x : Fin 3072 → EReal)

/-- The entry of position `j`. -/
def ent (j : Fin 3072) : Entry := (x j, BitVec.ofNat 32 j.val)

theorem ent_toInt (j : Fin 3072) : (ent x j).2.toInt = (j.val : ℤ) := toInt_word (by omega)

theorem ent_key_injective : Function.Injective fun j => key (ent x j) := by
  intro a b h
  have h1 := congrArg (fun e : Entry => e.2.toInt) (key_injective h)
  simp only [ent_toInt] at h1
  exact Fin.ext (by exact_mod_cast h1)

/-- `L` lists all the positions in strictly increasing order. -/
def IsOrder (L : List (Fin 3072)) : Prop :=
  L.Perm (List.finRange 3072) ∧ L.Pairwise fun a b => key (ent x a) < key (ent x b)

/-- The positions of `L` that lie in column `w`. -/
def lane (L : List (Fin 3072)) (w : Fin 384) : List (Fin 3072) :=
  L.filter fun j => decide (j.val % 384 = w.val)

/-- Entry `g` of column `w` is position `g * 384 + w`. -/
def pos (g : Fin 8) (w : Fin 384) : Fin 3072 := ⟨g.val * 384 + w.val, by omega⟩

/-- A column of eight registers holds the positions `l`, then values `⊤`. -/
def Rep (c : Fin 8 → Entry) (l : List (Fin 3072)) : Prop :=
  l.length ≤ 8 ∧ ∀ g : Fin 8, (∀ j, l[g.val]? = some j → c g = ent x j) ∧
    (l[g.val]? = none → (c g).1 = ⊤)

/-- The order in which the sorting network works, largest last. -/
def dualKey (e : Entry) : (Lex (EReal × ℤ))ᵒᵈ := OrderDual.toDual (key e)

theorem lane_perm {L : List (Fin 3072)} (hL : IsOrder x L) (w : Fin 384) :
    (lane L w).Perm (List.ofFn fun g => pos g w) := by
  have hnd : L.Nodup := hL.1.nodup_iff.2 (List.nodup_finRange _)
  refine (List.perm_ext_iff_of_nodup (hnd.filter _) ?_).2 fun a => ?_
  · refine List.nodup_ofFn.2 fun g h e => ?_
    have := congrArg Fin.val e
    simp only [pos] at this
    exact Fin.ext (by omega)
  · have ha : a ∈ L := hL.1.mem_iff.2 (List.mem_finRange a)
    simp only [lane, List.mem_filter, ha, true_and, decide_eq_true_eq, List.mem_ofFn]
    constructor
    · intro h
      refine ⟨⟨a.val / 384, by omega⟩, Fin.ext ?_⟩
      simp only [pos]; omega
    · rintro ⟨g, rfl⟩
      simp only [pos]; omega

/-- Sorting a column puts its positions in order. -/
theorem rep_init {L : List (Fin 3072)} (hL : IsOrder x L) (w : Fin 384) :
    Rep x (Network.applyBy dualKey (oddEvenNet 3) fun g => ent x (pos g w)) (lane L w) := by
  set v : Fin 8 → Entry := fun g => ent x (pos g w) with hv
  set c : Fin 8 → Entry := Network.applyBy dualKey (oddEvenNet 3) v with hc
  have hmono : ∀ g h : Fin 8, g < h → key (c g) ≤ key (c h) := by
    intro g h hgh
    have e := Network.key_comp_applyBy dualKey (oddEvenNet 3) v
    have a := oddEvenNet_three_antitone (dualKey ∘ v)
    rw [← e] at a
    exact a hgh.le
  obtain ⟨σ, hσ⟩ := Network.exists_perm_applyBy dualKey (oddEvenNet 3) v
  have hperm : (List.ofFn c).Perm ((lane L w).map (ent x)) := by
    have h1 : (List.ofFn c).Perm (List.ofFn v) := by
      rw [hc, hσ]; exact Equiv.Perm.ofFn_comp_perm σ v
    refine h1.trans ?_
    have h2 := (lane_perm x hL w).map (ent x)
    rw [List.map_ofFn] at h2
    exact h2.symm
  have hs1 : (List.ofFn c).Pairwise fun a b => key a ≤ key b :=
    List.pairwise_ofFn.2 hmono
  have hs2 : ((lane L w).map (ent x)).Pairwise fun a b => key a ≤ key b := by
    rw [List.pairwise_map]
    exact (hL.2.filter _).imp fun h => h.le
  have heq : List.ofFn c = (lane L w).map (ent x) :=
    hperm.eq_of_pairwise (fun a b _ _ h h' => key_injective (le_antisymm h h')) hs1 hs2
  have hlen : (lane L w).length = 8 := by
    have := congrArg List.length heq
    simpa using this.symm
  refine ⟨hlen.le, fun g => ⟨fun j hj => ?_, fun hn => ?_⟩⟩
  · have h := congrArg (fun l : List Entry => l[g.val]?) heq
    simp only [List.getElem?_map, hj, Option.map_some, List.getElem?_ofFn, g.isLt, dif_pos] at h
    exact Option.some.inj h
  · rw [List.getElem?_eq_none_iff, hlen] at hn
    omega

/-- The position a column offers at value `m`. -/
def candOf (m : EReal) (c : Fin 8 → Entry) : BitVec 32 := if (c 0).1 = m then (c 0).2 else 6144#32

/-- The column after a round: shifted up when it is the one chosen. -/
def pop (b : Prop) [Decidable b] (c : Fin 8 → Entry) : Fin 8 → Entry := fun g =>
  (if b then (if h : g.val < 7 then (c ⟨g.val + 1, by omega⟩).1 else ⊤) else (c g).1,
    if h : g.val < 7 then (if b then (c ⟨g.val + 1, by omega⟩).2 else (c g).2) else (c g).2)

theorem pop_false (c : Fin 8 → Entry) (b : Prop) [Decidable b] (hb : ¬ b) : pop b c = c := by
  funext g
  simp only [pop, hb, if_false, dite_eq_ite, ite_self]

theorem rep_pop {c : Fin 8 → Entry} {a : Fin 3072} {l : List (Fin 3072)} (h : Rep x c (a :: l))
    (b : Prop) [Decidable b] (hb : b) : Rep x (pop b c) l := by
  obtain ⟨hl, hg⟩ := h
  simp only [List.length_cons] at hl
  refine ⟨by omega, fun g => ?_⟩
  by_cases h7 : g.val < 7
  · have := hg ⟨g.val + 1, by omega⟩
    simp only [List.getElem?_cons_succ] at this
    simp only [pop, hb, if_true, h7, dif_pos]
    exact this
  · have hn : l[g.val]? = none := by rw [List.getElem?_eq_none_iff]; omega
    simp only [hn, pop, hb, if_true, h7, dif_neg, not_false_eq_true]
    simp

/-- What a nonempty column offers first. -/
theorem rep_head {c : Fin 8 → Entry} {a : Fin 3072} {l : List (Fin 3072)} (h : Rep x c (a :: l)) :
    c 0 = ent x a := (h.2 0).1 a rfl

theorem rep_nil {c : Fin 8 → Entry} (h : Rep x c []) : (c 0).1 = ⊤ := (h.2 0).2 rfl

/-- One round takes the first of the remaining positions. -/
theorem round (hx : ∀ j, x j < ⊤) {a : Fin 3072} {rest : List (Fin 3072)}
    (hs : (a :: rest).Pairwise fun a b => key (ent x a) < key (ent x b))
    (c : Fin 384 → Fin 8 → Entry) (hc : ∀ w, Rep x (c w) (lane (a :: rest) w))
    (m : EReal) (hm : ∀ b, b ≤ m ↔ ∀ w, b ≤ (c w 0).1)
    (i0 : BitVec 32)
    (hi : ∀ b : ℤ, b ≤ i0.toInt ↔ b ≤ 2147483647 ∧ ∀ w, b ≤ (candOf m (c w)).toInt) :
    m = x a ∧ i0 = BitVec.ofNat 32 a.val ∧
      ∀ w, Rep x (pop (candOf m (c w) = i0) (c w)) (lane rest w) := by
  set wa : Fin 384 := ⟨a.val % 384, Nat.mod_lt _ (by omega)⟩ with hwa
  have hlane : lane (a :: rest) wa = a :: lane rest wa := by simp [lane, hwa]
  have hother : ∀ w, w ≠ wa → lane (a :: rest) w = lane rest w := by
    intro w hw
    have : ¬ a.val % 384 = w.val := fun e => hw (Fin.ext e.symm)
    simp [lane, this]
  have hca : c wa 0 = ent x a := rep_head x (hlane ▸ hc wa)
  have hfirst : ∀ h ∈ a :: rest, key (ent x a) ≤ key (ent x h) := by
    intro h hh
    rcases List.mem_cons.1 hh with rfl | hh
    · exact le_rfl
    · exact ((List.pairwise_cons.1 hs).1 h hh).le
  have hcol : ∀ w, (c w 0).1 = ⊤ ∨ ∃ h, h ∈ a :: rest ∧ h.val % 384 = w.val ∧ c w 0 = ent x h := by
    intro w
    have hw := hc w
    cases hl : lane (a :: rest) w with
    | nil => left; rw [hl] at hw; exact rep_nil x hw
    | cons h t =>
      right
      rw [hl] at hw
      have hmem : h ∈ lane (a :: rest) w := by rw [hl]; exact List.mem_cons_self
      simp only [lane, List.mem_filter, decide_eq_true_eq] at hmem
      exact ⟨h, hmem.1, hmem.2, rep_head x hw⟩
  have hxle : ∀ w, x a ≤ (c w 0).1 := by
    intro w
    rcases hcol w with h | ⟨h, hh, -, e⟩
    · rw [h]; exact le_top
    · rw [e]
      rcases (key_le_iff _ _).1 (hfirst h hh) with h1 | h1
      · exact h1.le
      · exact h1.1.le
  have hma : m = x a := by
    refine le_antisymm ?_ ((hm _).2 hxle)
    have := (hm m).1 le_rfl wa
    rw [hca] at this
    exact this
  have hcanda : candOf m (c wa) = BitVec.ofNat 32 a.val := by
    rw [candOf, hca, hma]; exact if_pos rfl
  have hcand : ∀ w, candOf m (c w) = 6144#32 ∨
      ∃ h, h ∈ a :: rest ∧ h.val % 384 = w.val ∧ x h = x a ∧ candOf m (c w) = BitVec.ofNat 32 h.val := by
    intro w
    unfold candOf
    split
    · rename_i e
      right
      rcases hcol w with h | ⟨h, hh, hw, e'⟩
      · rw [h, hma] at e; exact absurd (hx a) (by rw [← e]; exact lt_irrefl _)
      · refine ⟨h, hh, hw, ?_, by rw [e']; rfl⟩
        rw [e', hma] at e; exact e
    · left; rfl
  have hcle : ∀ w, (a.val : ℤ) ≤ (candOf m (c w)).toInt := by
    intro w
    rcases hcand w with h | ⟨h, hh, -, e, e'⟩
    · rw [h, toInt_word (by omega)]; omega
    · rw [e', toInt_word (by omega)]
      rcases (key_le_iff _ _).1 (hfirst h hh) with h1 | h1
      · exact absurd h1 (by simp only [ent, e]; exact lt_irrefl _)
      · simpa only [ent_toInt] using h1.2
  have hia : i0 = BitVec.ofNat 32 a.val := by
    refine BitVec.eq_of_toInt_eq ?_
    rw [toInt_word (by omega)]
    refine le_antisymm ?_ ((hi _).2 ⟨by omega, hcle⟩)
    have := ((hi _).1 le_rfl).2 wa
    rwa [hcanda, toInt_word (by omega)] at this
  refine ⟨hma, hia, fun w => ?_⟩
  by_cases hw : w = wa
  · subst hw
    exact rep_pop x (hlane ▸ hc _) _ (hcanda.trans hia.symm)
  · rw [pop_false]
    · rw [← hother w hw]; exact hc w
    · intro e
      rw [hia] at e
      rcases hcand w with h | ⟨h, -, hhw, -, e'⟩
      · have := congrArg BitVec.toInt (h.symm.trans e)
        rw [toInt_word (by omega), toInt_word (by omega)] at this
        omega
      · have := congrArg BitVec.toInt (e'.symm.trans e)
        rw [toInt_word (by omega), toInt_word (by omega)] at this
        refine hw (Fin.ext ?_)
        simp only [hwa]; omega

/-- All the rounds: round `t` takes entry `t` of the order. -/
theorem rounds (hx : ∀ j, x j < ⊤) {L : List (Fin 3072)} (hL : IsOrder x L)
    (c : ℕ → Fin 384 → Fin 8 → Entry) (m : ℕ → EReal) (i0 : ℕ → BitVec 32)
    (h0 : ∀ w, c 0 w = Network.applyBy dualKey (oddEvenNet 3) fun g => ent x (pos g w))
    (hm : ∀ t b, b ≤ m t ↔ ∀ w, b ≤ (c t w 0).1)
    (hi : ∀ t (b : ℤ), b ≤ (i0 t).toInt ↔ b ≤ 2147483647 ∧ ∀ w, b ≤ (candOf (m t) (c t w)).toInt)
    (hstep : ∀ t w, c (t + 1) w = pop (candOf (m t) (c t w) = i0 t) (c t w))
    (t : ℕ) (ht : t < L.length) : m t = x L[t] ∧ i0 t = BitVec.ofNat 32 (L[t]).val := by
  have hrep : ∀ t, t ≤ L.length → ∀ w, Rep x (c t w) (lane (L.drop t) w) := by
    intro t
    induction t with
    | zero => intro _ w; rw [h0 w, List.drop_zero]; exact rep_init x hL w
    | succ t ih =>
      intro ht w
      have hd : L.drop t = L[t] :: L.drop (t + 1) := List.drop_eq_getElem_cons (by omega)
      have ih' := ih (by omega)
      rw [hd] at ih'
      have hs := hL.2.drop (i := t)
      rw [hd] at hs
      rw [hstep]
      exact (round x hx hs (c t) ih' (m t) (hm t) (i0 t) (hi t)).2.2 w
  have hd : L.drop t = L[t] :: L.drop (t + 1) := List.drop_eq_getElem_cons ht
  have ih' := hrep t ht.le
  rw [hd] at ih'
  have hs := hL.2.drop (i := t)
  rw [hd] at hs
  have := round x hx hs (c t) ih' (m t) (hm t) (i0 t) (hi t)
  exact ⟨this.1, this.2.1⟩

/-- Two orders agree on a list in which positions increase, so a stable sort breaks ties by position. -/
theorem stableSort_tie {n : ℕ} (R R' : Fin n → Fin n → Bool) (h : ∀ a b, a < b → R b a = R' b a) :
    ∀ l : List (Fin n), l.Pairwise (· < ·) → stableSort R l = stableSort R' l
  | [], _ => rfl
  | a :: l, hl => by
    obtain ⟨ha, hl'⟩ := List.pairwise_cons.1 hl
    have ih := stableSort_tie R R' h l hl'
    show insertBefore R a (stableSort R l) = insertBefore R' a (stableSort R' l)
    rw [ih]
    exact insertBefore_congr R R' a _ fun b hb => h a b (ha b ((perm_stableSort R' l).mem_iff.1 hb))

/-- The stable sort by decreasing `y` lists the positions by increasing `-y`, then by position. -/
theorem isOrder_sortPositions (y : Fin 3072 → EReal) :
    IsOrder (fun j => -y j) (sortPositions 3072 fun k k' => decide (y k' < y k)) := by
  set x : Fin 3072 → EReal := fun j => -y j with hxd
  set R' : Fin 3072 → Fin 3072 → Bool := fun k k' => decide (key (ent x k) < key (ent x k')) with hR'
  have hx : ∀ a b, x b < x a ↔ y a < y b := fun a b => EReal.neg_lt_neg_iff
  have hRR : ∀ a b : Fin 3072, a < b → decide (y a < y b) = R' b a := by
    intro a b hab
    rw [hR', decide_eq_decide, key_lt_iff, ent_toInt, ent_toInt]
    have : ¬ ((b.val : ℤ) < a.val) := by have := Fin.lt_def.1 hab; omega
    simp only [this, and_false, or_false]
    exact (hx a b).symm
  have e : (sortPositions 3072 fun k k' => decide (y k' < y k)) = sortPositions 3072 R' :=
    stableSort_tie _ _ (fun a b h => hRR a b h) _ (List.pairwise_lt_finRange _)
  rw [e]
  have hp := perm_sortPositions R' (n := 3072)
  refine ⟨hp, ?_⟩
  have hnd : (sortPositions 3072 R').Nodup := hp.nodup_iff.2 (List.nodup_finRange _)
  have hpw := pairwise_stableSort R' R' (fun a b h => by
      simp only [hR', decide_eq_true_eq, decide_eq_false_iff_not, not_lt] at h ⊢; exact h.le)
    (fun a b h => h) (fun a b c h h' => by
      simp only [hR', decide_eq_true_eq, decide_eq_false_iff_not, not_lt] at h h' ⊢; exact le_trans h' h)
    (List.finRange 3072)
  have hpw' : (sortPositions 3072 R').Pairwise fun a b => key (ent x a) ≤ key (ent x b) :=
    hpw.imp fun h => by simpa only [hR', decide_eq_false_iff_not, not_lt] using h
  exact (hpw'.and hnd).imp fun ⟨h, hne⟩ => lt_of_le_of_ne h fun e => hne (ent_key_injective x e)

end Cert.Nearest
-- ==== Proof.Spec.lean ====
module

public import proofs.«01_k».proof.Proof.Select

/-!
# What both programs compute, element by element

Distances of one atom to another, their order in a row, and the two tables of neighbours.
-/

@[expose] public section
noncomputable section
namespace Cert.Nearest
open Idealize.ShloMosaic

/-- The masked distance from the atom at `p` with mask `u` to the atom at `q` with mask `v`. -/
def distOf (p q : Fin 3 → EReal) (u v : EReal) : EReal :=
  Ideal.sqrt ((q 0 - p 0) * (q 0 - p 0) + (q 1 - p 1) * (q 1 - p 1) + (q 2 - p 2) * (q 2 - p 2)
      + Ideal.ofBits .f32 0x358637BD#32) * (v * u)
    + (Ideal.ofBits .f32 0x3F800000#32 - v * u) * Ideal.ofBits .f32 0x49742400#32

theorem ofBits_million : Ideal.ofBits .f32 0x49742400#32 = ((1000000 : ℝ) : EReal) := by
  simp [Ideal.ofBits, Ideal.ieee, -EReal.coe_mul]; norm_num

theorem ofBits_small : ∃ e : ℝ, 0 < e ∧ Ideal.ofBits .f32 0x358637BD#32 = ((e : ℝ) : EReal) := by
  refine ⟨_, ?_, by simp [Ideal.ofBits, Ideal.ieee, -EReal.coe_mul]; rfl⟩
  norm_num

theorem ofBits_top : Ideal.ofBits .f32 0x7F800000#32 = ⊤ := by
  simp [Ideal.ofBits, Ideal.ieee]

/-- Between atoms at finite places the distance stays below infinity, whatever the masks are. -/
theorem distOf_lt_top (p q : Fin 3 → ℝ) (u v : EReal) :
    distOf (fun k => (p k : EReal)) (fun k => (q k : EReal)) u v < ⊤ := by
  obtain ⟨e, he, h⟩ := ofBits_small
  have hs : 0 < (q 0 - p 0) * (q 0 - p 0) + (q 1 - p 1) * (q 1 - p 1) + (q 2 - p 2) * (q 2 - p 2) + e := by
    nlinarith [mul_self_nonneg (q 0 - p 0), mul_self_nonneg (q 1 - p 1), mul_self_nonneg (q 2 - p 2)]
  unfold distOf
  rw [h, ofBits_million, Ideal.ofBits_one_f32]
  simp only [← EReal.coe_sub, ← EReal.coe_mul, ← EReal.coe_add, Ideal.sqrt_coe, not_lt.2 hs.le, if_false]
  have hr := Real.sqrt_pos.2 hs
  generalize Real.sqrt _ = d at hr ⊢
  have ht : (1 : EReal) - ⊤ = ⊥ := by rw [sub_eq_add_neg, EReal.neg_top, EReal.add_bot]
  generalize v * u = w
  induction w with
  | bot => rw [EReal.coe_mul_bot_of_pos hr, EReal.bot_add]; exact bot_lt_top
  | top =>
    rw [ht, EReal.bot_mul_coe_of_pos (by norm_num), EReal.add_bot]
    exact bot_lt_top
  | coe r =>
    rw [← EReal.coe_one, ← EReal.coe_sub, ← EReal.coe_mul, ← EReal.coe_mul, ← EReal.coe_add]
    exact EReal.coe_lt_top _

/-- A finite extended real is a real. -/
theorem exists_real {x : EReal} (h : max x (-x) < ⊤) : ∃ r : ℝ, x = (r : EReal) := by
  induction x with
  | bot => simp at h
  | top => simp at h
  | coe r => exact ⟨r, rfl⟩

/-- The distances of row `i` of batch `b`. -/
def row (C : (⟨3, ![2, 3072, 3]⟩ : Shape).Idx → EReal) (M : (⟨2, ![2, 3072]⟩ : Shape).Idx → EReal)
    (b : Fin 2) (i : Fin 3072) (j : Fin 3072) : EReal :=
  distOf (fun k => C (ix3 b i k)) (fun k => C (ix3 b j k)) (M (ix2 b i)) (M (ix2 b j))

/-- The positions in order of a row of distances. -/
def order (x : Fin 3072 → EReal) : List (Fin 3072) :=
  sortPositions 3072 fun k k' => decide (-x k' < -x k)

theorem isOrder_order (x : Fin 3072 → EReal) : IsOrder x (order x) := by
  have h := isOrder_sortPositions fun j => -x j
  simp only [neg_neg] at h
  exact h

theorem length_order (x : Fin 3072 → EReal) : (order x).length = 3072 := length_sortPositions _ _

/-- The neighbour of rank `t`. -/
def nth (x : Fin 3072 → EReal) (t : Fin 32) : Fin 3072 :=
  (order x)[t.val]'(by rw [length_order]; omega)

/-- The table of distances. -/
def vals (C : (⟨3, ![2, 3072, 3]⟩ : Shape).Idx → EReal) (M : (⟨2, ![2, 3072]⟩ : Shape).Idx → EReal)
    (b : Fin 2) (i : Fin 3072) (t : Fin 32) : EReal :=
  if M (ix2 b i) = 0 then Ideal.ofBits .f32 0x49742400#32 else row C M b i (nth (row C M b i) t)

/-- The table of positions. -/
def idxs (C : (⟨3, ![2, 3072, 3]⟩ : Shape).Idx → EReal) (M : (⟨2, ![2, 3072]⟩ : Shape).Idx → EReal)
    (b : Fin 2) (i : Fin 3072) (t : Fin 32) : BitVec 32 :=
  if M (ix2 b i) = 0 then 0#32 else BitVec.ofNat 32 (nth (row C M b i) t).val

end Cert.Nearest
-- ==== Proof.Rows.lean ====
module

public import proofs.«01_k».proof.Proof.Rounds
public import proofs.«01_k».proof.Proof.Spec
public import Idealize.ShloMosaic.Lib.WholeRead

/-!
# The rounds read in one row, at the extended reals
-/

@[expose] public section
noncomputable section
namespace Cert.KernelIdeal.Rounds
open Idealize.ShloMosaic Idealize.SL.Sem Idealize.ShloMosaic.SortNet
open Cert.KernelIdeal.Gen Cert.Nearest

/-- The column `w` of row `r`. -/
def col (s : State Ideal) (r : Fin 256) (w : Fin 384) : Fin 8 → Entry :=
  fun g => ((s g).1 (ix2 r w), (s g).2 (ix2 r w))

/-- The smallest head bounds the others from below, and is the greatest such bound. -/
theorem le_rowMin (s : State Ideal) (r : Fin 256) (b : EReal) :
    b ≤ rowMin s (ix2 r 0) ↔ ∀ w, b ≤ (col s r w 0).1 := by
  pointwise [rowMin]
  rw [ofBits_top, Finset.le_fold_min]
  simp [col]

theorem cand_apply (s : State Ideal) (r : Fin 256) (w : Fin 384) :
    cand s (ix2 r w) = candOf (rowMin s (ix2 r 0)) (col s r w) := by
  pointwise [cand]
  by_cases h : (s 0).1 (ix2 r w) = rowMin s (ix2 r 0)
  · rw [if_pos h]; exact (if_pos h).symm
  · rw [if_neg h]; exact (if_neg h).symm

theorem minsi_toInt (a b : BitVec 32) : (IntOp.minsi a b).toInt = min a.toInt b.toInt := by
  unfold IntOp.minsi
  split <;> rename_i h <;> simp [BitVec.slt, BitVec.sle] at h <;> omega

theorem le_first (s : State Ideal) (r : Fin 256) (b : ℤ) :
    b ≤ (first s (ix2 r 0)).toInt ↔ b ≤ 2147483647 ∧ ∀ w, b ≤ (cand s (ix2 r w)).toInt := by
  pointwise [first]
  rw [← Finset.fold_hom (op' := min) (m := BitVec.toInt) minsi_toInt, Finset.le_fold_min]
  simp

theorem ofBool_eq_one (b : Bool) : BitVec.ofBool b = 1#1 ↔ b = true := by cases b <;> decide

theorem cmpi_eq_iff (a b : BitVec 32) : IntOp.cmpi .eq a b = 1#1 ↔ a = b :=
  (ofBool_eq_one _).trans beq_iff_eq

theorem sel_apply (s : State Ideal) (r : Fin 256) (w : Fin 384) :
    sel s (ix2 r w) = 1#1 ↔ cand s (ix2 r w) = first s (ix2 r 0) := by
  pointwise [sel]
  exact cmpi_eq_iff _ _

theorem or_and_bool : ∀ p q r : Bool,
    (BitVec.ofBool p ||| (BitVec.ofBool q &&& BitVec.ofBool r)) = 1#1 ↔ p = true ∨ (q = true ∧ r = true) := by
  decide

theorem after_apply (p q : FVec Ideal S256x384 .f32 × IVec S256x384 32) (r : Fin 256) (w : Fin 384) :
    after p q (ix2 r w) = 1#1 ↔ key (q.1 (ix2 r w), q.2 (ix2 r w)) < key (p.1 (ix2 r w), p.2 (ix2 r w)) := by
  rw [key_lt_iff]
  pointwise [after]
  refine (or_and_bool _ _ _).trans ?_
  simp [BitVec.slt, eq_comm]

theorem select_at {e : Type} (m : IVec S256x384 1) (a b : S256x384.Idx → e) (i : S256x384.Idx) :
    select m a b i = if m i = 1#1 then a i else b i := rfl

theorem exchange_col (s : State Ideal) (c : Cmpx 8) (r : Fin 256) (w : Fin 384) :
    col (exchange s c) r w = Cmpx.applyBy dualKey c (col s r w) := by
  have hk : after (s c.hi) (s c.lo) (ix2 r w) = 1#1 ↔
      dualKey (col s r w c.hi) < dualKey (col s r w c.lo) :=
    (after_apply _ _ r w).trans OrderDual.toDual_lt_toDual.symm
  funext g
  unfold Cmpx.applyBy
  by_cases hlo : g = c.lo
  · have hhi : g ≠ c.hi := by rw [hlo]; exact c.ne
    rw [if_pos hlo]
    by_cases h : dualKey (col s r w c.hi) < dualKey (col s r w c.lo)
    · refine Eq.trans ?_ (if_pos h).symm
      simp only [col, exchange, if_neg hhi, if_pos hlo, select_at, if_pos (hk.2 h)]
    · refine Eq.trans ?_ (if_neg h).symm
      simp only [col, exchange, if_neg hhi, if_pos hlo, select_at, if_neg (mt hk.1 h)]
  · rw [if_neg hlo]
    by_cases hhi : g = c.hi
    · rw [if_pos hhi]
      by_cases h : dualKey (col s r w c.hi) < dualKey (col s r w c.lo)
      · refine Eq.trans ?_ (if_pos h).symm
        simp only [col, exchange, if_pos hhi, select_at, if_pos (hk.2 h)]
      · refine Eq.trans ?_ (if_neg h).symm
        simp only [col, exchange, if_pos hhi, select_at, if_neg (mt hk.1 h)]
    · rw [if_neg hhi]
      simp only [col, exchange, if_neg hhi, if_neg hlo]

theorem foldl_col (r : Fin 256) (w : Fin 384) (N : Network 8) : ∀ s : State Ideal,
    col (N.foldl exchange s) r w = Network.applyBy dualKey N (col s r w) := by
  induction N with
  | nil => intro s; rfl
  | cons c N ih => intro s; rw [List.foldl_cons, ih, exchange_col, Network.applyBy_cons]

theorem sorted_col (s : State Ideal) (r : Fin 256) (w : Fin 384) :
    col (sorted s) r w = Network.applyBy dualKey (oddEvenNet 3) (col s r w) := by
  rw [← net_eq]; exact foldl_col r w net s

theorem kill_eq : Named.named (F := Ideal) κ "kill" (φ := .f32) 0x7F61B1E6#32 = ⊤ :=
  IdealRules.named_const.ideal_named_scalar _ _ _ _ rfl

theorem step_col (s : State Ideal) (r : Fin 256) (w : Fin 384) :
    col (step s) r w =
      pop (candOf (rowMin s (ix2 r 0)) (col s r w) = first s (ix2 r 0)) (col s r w) := by
  have hs := sel_apply s r w
  rw [cand_apply] at hs
  funext g
  fin_cases g <;> simp [col, step, up, pop, select_at, hs, kill_eq, broadcast]

theorem word_add (a b : ℕ) : IntOp.addi (BitVec.ofNat 32 a) (BitVec.ofNat 32 b) = BitVec.ofNat 32 (b + a) := by
  rw [Nat.add_comm]; exact (BitVec.ofNat_add a b).symm

theorem start_col (d : FVec Ideal S256x3072 .f32) (v30 : FVec Ideal S1x3072 .f32) (v32 : FVec Ideal S256x1 .f32)
    (r : Fin 256) (w : Fin 384) (g : Fin 8) :
    col (start d v30 v32) r w g = ent (fun j => k0_pay4 d v30 v32 (ix2 r j)) (pos g w) := by
  fin_cases g <;>
    (pointwise [col, start, ent, pos, k0_pay6, k0_pay7, k0_pay8, k0_pay9, k0_pay10, k0_pay11, k0_pay12, k0_pay13,
      k0_pay14, k0_pay15, k0_pay16, k0_pay17, k0_pay18, k0_pay19, k0_pay20, k0_pay21]
     simp [word_add])

/-- What the round `t` finds in row `r`. -/
theorem found (d : FVec Ideal S256x3072 .f32) (v30 : FVec Ideal S1x3072 .f32) (v32 : FVec Ideal S256x1 .f32)
    (r : Fin 256) (x : Fin 3072 → EReal) (hxd : ∀ j, k0_pay4 d v30 v32 (ix2 r j) = x j) (hx : ∀ j, x j < ⊤)
    (t : Fin 32) :
    rowMin (St (sorted (start d v30 v32)) t) (ix2 r 0) = x (nth x t) ∧
      first (St (sorted (start d v30 v32)) t) (ix2 r 0) = BitVec.ofNat 32 (nth x t).val := by
  have hxf : (fun j => k0_pay4 d v30 v32 (ix2 r j)) = x := funext hxd
  refine rounds x hx (isOrder_order x) (fun t w => col (St (sorted (start d v30 v32)) t) r w)
    (fun t => rowMin (St (sorted (start d v30 v32)) t) (ix2 r 0))
    (fun t => first (St (sorted (start d v30 v32)) t) (ix2 r 0)) (fun w => ?_) (fun t b => le_rowMin _ r b)
    (fun t b => ?_) (fun t w => step_col _ r w) t.val (by rw [length_order]; omega)
  · show col (sorted (start d v30 v32)) r w = _
    rw [sorted_col]
    congr 1
    funext g
    rw [start_col, hxf]
  · rw [le_first]
    simp only [cand_apply]

theorem outV_apply (pad : IVec S256x1 1) (s : State Ideal) (r : Fin 256) :
    outV pad s (ix3 0 r 0) = if pad (ix2 r 0) = 1#1 then Ideal.ofBits .f32 0x49742400#32 else rowMin s (ix2 r 0) := by
  pointwise [outV]
  rfl

theorem outI_apply (pad : IVec S256x1 1) (s : State Ideal) (r : Fin 256) :
    outI pad s (ix3 0 r 0) = if pad (ix2 r 0) = 1#1 then 0#32 else first s (ix2 r 0) := by
  pointwise [outI]
  rfl

section reads
variable {F : FTy → Type} [FloatOps F] [Named F] {κ' : Kind} {sp : Space}

/-- A store into column `n`, read in that column. -/
theorem read_hit {e : EltTy} (v : View sig κ' sp S1x256x32 e) (f : v.ty.Contents (Elt F)) (n : ℕ)
    (h : ∀ a, (![0, 0, n] : Fin 3 → ℕ) a + S1x256x1.size a ≤ S1x256x32.size a)
    (w : (Rect.unit (s := S1x256x32) ![0, 0, n] S1x256x1.size h).shape.Idx → Elt F e) (L : List (View.Piece (Elt F) S1x256x32 e))
    (r : Fin 256) (t : Fin 32) (ht : t.val = n) :
    v.read (Elt F) (v.writes (Elt F) f (⟨Rect.unit (s := S1x256x32) ![0, 0, n] S1x256x1.size h, w⟩ :: L)) (ix3 0 r t)
      = w (ix3 0 r 0) := by
  subst ht
  exact View.read_writes_cons_unit_of_mem (off' := ![0, 0, t.val]) _ _ _ w L (ix3 0 r t) (ix3 0 r 0) rfl
    (by intro a; change Fin 3 at a; fin_cases a <;> simp [ix3])

/-- A store into column `n`, read in an earlier column. -/
theorem read_miss {e : EltTy} (v : View sig κ' sp S1x256x32 e) (f : v.ty.Contents (Elt F)) (n : ℕ)
    (h : ∀ a, (![0, 0, n] : Fin 3 → ℕ) a + S1x256x1.size a ≤ S1x256x32.size a)
    (w : (Rect.unit (s := S1x256x32) ![0, 0, n] S1x256x1.size h).shape.Idx → Elt F e) (L : List (View.Piece (Elt F) S1x256x32 e))
    (r : Fin 256) (t : Fin 32) (ht : t.val < n) :
    v.read (Elt F) (v.writes (Elt F) f (⟨Rect.unit (s := S1x256x32) ![0, 0, n] S1x256x1.size h, w⟩ :: L)) (ix3 0 r t)
      = v.read (Elt F) (v.writes (Elt F) f L) (ix3 0 r t) :=
  View.read_writes_cons_unit_of_not_mem (off' := ![0, 0, n]) _ _ _ w L (ix3 0 r t) rfl 2 (by exact .inl ht)

/-- The stores read back, the distances. -/
theorem read_piecesV (v : View sig κ' sp S1x256x32 .f32) (f : v.ty.Contents (Elt F)) (pad : IVec S256x1 1) (s : State F)
    (r : Fin 256) (t : Fin 32) (n : ℕ) (h : n ≤ 32) (ht : t.val < n) :
    v.read (Elt F) (v.writes (Elt F) f (piecesV pad s n h)) (ix3 0 r t) = outV pad (St s t) (ix3 0 r 0) := by
  induction n with
  | zero => exact absurd ht (Nat.not_lt_zero _)
  | succ n ih =>
    by_cases e : t.val = n
    · rw [e]
      exact read_hit v f n _ _ _ r t e
    · exact (read_miss v f n _ _ _ r t (by omega)).trans (ih (Nat.le_of_succ_le h) (by omega))

/-- The stores read back, the positions. -/
theorem read_piecesI (v : View sig κ' sp S1x256x32 .i32) (f : v.ty.Contents (Elt F)) (pad : IVec S256x1 1) (s : State F)
    (r : Fin 256) (t : Fin 32) (n : ℕ) (h : n ≤ 32) (ht : t.val < n) :
    v.read (Elt F) (v.writes (Elt F) f (piecesI pad s n h)) (ix3 0 r t) = outI pad (St s t) (ix3 0 r 0) := by
  induction n with
  | zero => exact absurd ht (Nat.not_lt_zero _)
  | succ n ih =>
    by_cases e : t.val = n
    · rw [e]
      exact read_hit v f n _ _ _ r t e
    · exact (read_miss v f n _ _ _ r t (by omega)).trans (ih (Nat.le_of_succ_le h) (by omega))

end reads

theorem pay4_apply (x0 : Vec Ideal S1x3x3072 .f32) (x1 : Vec Ideal S1x256x3 .f32) (x2 : Vec Ideal S1x1x3072 .f32)
    (x3 : Vec Ideal S1x256x1 .f32) (r : Fin 256) (j : Fin 3072) :
    k0_pay4 (k0_pay1
      (View.ld x0 (Rect.unit (s := S1x3x3072) ![0, 0, 0] S1x1x3072.size inb_S1x3x3072_S1x1x3072_0_0_0))
      (View.ld x0 (Rect.unit (s := S1x3x3072) ![0, 1, 0] S1x1x3072.size inb_S1x3x3072_S1x1x3072_0_1_0))
      (View.ld x0 (Rect.unit (s := S1x3x3072) ![0, 2, 0] S1x1x3072.size inb_S1x3x3072_S1x1x3072_0_2_0))
      (View.ld x1 (Rect.unit (s := S1x256x3) ![0, 0, 0] S1x256x1.size inb_S1x256x3_S1x256x1_0_0_0))
      (View.ld x1 (Rect.unit (s := S1x256x3) ![0, 0, 1] S1x256x1.size inb_S1x256x3_S1x256x1_0_0_1))
      (View.ld x1 (Rect.unit (s := S1x256x3) ![0, 0, 2] S1x256x1.size inb_S1x256x3_S1x256x1_0_0_2)))
      (k0_pay2 (View.ld x2 (Rect.unit (s := S1x1x3072) ![0, 0, 0] S1x1x3072.size inb_S1x1x3072_S1x1x3072_0_0_0)))
      (k0_pay3 (View.ld x3 (Rect.unit (s := S1x256x1) ![0, 0, 0] S1x256x1.size inb_S1x256x1_S1x256x1_0_0_0)))
      (ix2 r j) =
    distOf (fun k => x1 (ix3 0 r k)) (fun k => x0 (ix3 0 k j)) (x3 (ix3 0 r 0)) (x2 (ix3 0 0 j)) := by
  pointwise [k0_pay4, k0_pay1, k0_pay2, k0_pay3, distOf]

theorem pay5_apply (x3 : Vec Ideal S1x256x1 .f32) (r : Fin 256) :
    k0_pay5 (F := Ideal) (View.ld x3 (Rect.unit (s := S1x256x1) ![0, 0, 0] S1x256x1.size inb_S1x256x1_S1x256x1_0_0_0)) (ix2 r 0) = 1#1
      ↔ x3 (ix3 0 r 0) = 0 := by
  pointwise [k0_pay5]
  exact (ofBool_eq_one _).trans decide_eq_true_iff

end Cert.KernelIdeal.Rounds
-- ==== Proof.Blocks.lean ====
module

public import proofs.«01_k».proof.Proof.Rows

/-!
# The two blocks that the first kernel leaves
-/

@[expose] public section
noncomputable section
namespace Cert.KernelIdeal.Rounds
open Idealize.ShloMosaic Idealize.SL.Sem Idealize.ShloMosaic.TcCoe
open Cert.KernelIdeal.Gen Cert.Nearest

variable (c : Dev nD) (i : grid0.Coords)
  (arg2 : Memref sig .tc .vmem S1x3x3072 .f32) (harg2 : arg2.IsWhole)
  (arg3 : Memref sig .tc .vmem S1x256x3 .f32) (harg3 : arg3.IsWhole)
  (arg4 : Memref sig .tc .vmem S1x1x3072 .f32) (harg4 : arg4.IsWhole)
  (arg5 : Memref sig .tc .vmem S1x256x1 .f32) (harg5 : arg5.IsWhole)
  (arg6 : Memref sig .tc .vmem S1x256x32 .f32) (harg6 : arg6.IsWhole)
  (arg7 : Memref sig .tc .vmem S1x256x32 .i32) (harg7 : arg7.IsWhole)
  (arg8 : Memref sig .tc .vmem S8x128 .f32) (harg8 : arg8.IsWhole)
  (x0 : Vec Ideal S1x3x3072 .f32) (x1 : Vec Ideal S1x256x3 .f32) (x2 : Vec Ideal S1x1x3072 .f32)
  (x3 : Vec Ideal S1x256x1 .f32) (r : Fin 256) (t : Fin 32) (x : Fin 3072 → EReal)

include x in
theorem out_vals (hxd : ∀ j, distOf (fun k => x1 (ix3 0 r k)) (fun k => x0 (ix3 0 k j)) (x3 (ix3 0 r 0)) (x2 (ix3 0 0 j)) = x j)
    (hx : ∀ j, x j < ⊤) :
    out0_A_4 c i arg2 harg2 arg3 harg3 arg4 harg4 arg5 harg5 arg6 harg6 arg7 harg7 arg8 harg8 x0 x1 x2 x3 (ix3 0 r t) =
      if x3 (ix3 0 r 0) = 0 then Ideal.ofBits .f32 0x49742400#32 else x (nth x t) := by
  unfold out0_A_4
  rw [run_vals, read_piecesV _ _ _ _ r t 32 le_rfl t.isLt, outV_apply]
  simp only [startRaw, padRaw, View.readAt_eq_ld, Memref.IsWhole.read_unread]
  rw [(found _ _ _ r x (fun j => (pay4_apply x0 x1 x2 x3 r j).trans (hxd j)) hx t).1]
  simp only [pay5_apply]

include x in
theorem out_idx (hxd : ∀ j, distOf (fun k => x1 (ix3 0 r k)) (fun k => x0 (ix3 0 k j)) (x3 (ix3 0 r 0)) (x2 (ix3 0 0 j)) = x j)
    (hx : ∀ j, x j < ⊤) :
    out0_A_5 c i arg2 harg2 arg3 harg3 arg4 harg4 arg5 harg5 arg6 harg6 arg7 harg7 arg8 harg8 x0 x1 x2 x3 (ix3 0 r t) =
      if x3 (ix3 0 r 0) = 0 then 0#32 else BitVec.ofNat 32 (nth x t).val := by
  unfold out0_A_5
  rw [run_idx, read_piecesI _ _ _ _ r t 32 le_rfl t.isLt, outI_apply]
  simp only [startRaw, padRaw, View.readAt_eq_ld, Memref.IsWhole.read_unread]
  rw [(found _ _ _ r x (fun j => (pay4_apply x0 x1 x2 x3 r j).trans (hxd j)) hx t).2]
  simp only [pay5_apply]

end Cert.KernelIdeal.Rounds
-- ==== Proof.Arrays.lean ====
module

public import proofs.«01_k».proof.Proof.Launch
public import proofs.«01_k».proof.Proof.Blocks

/-!
# The two tables that the first kernel leaves
-/

@[expose] public section
noncomputable section
namespace Cert.KernelIdeal.Final
open Idealize.ShloMosaic Idealize.ShloMosaic.TcCoe Idealize.SL.Sem
open Cert.KernelIdeal.Gen Cert.KernelIdeal.Rounds Cert.Nearest

theorem index0 : ∀ t : Fin cfg0.N, win0_0.index t = ![(grid0.coords t 0).val, 0, 0] := by decide +kernel
theorem index1 : ∀ t : Fin cfg0.N, win0_1.index t = ![(grid0.coords t 0).val, (grid0.coords t 1).val, 0] := by decide +kernel
theorem index2 : ∀ t : Fin cfg0.N, win0_2.index t = ![(grid0.coords t 0).val, 0, 0] := by decide +kernel
theorem index3 : ∀ t : Fin cfg0.N, win0_3.index t = ![(grid0.coords t 0).val, (grid0.coords t 1).val, 0] := by decide +kernel
theorem index4 : ∀ t : Fin cfg0.N, win0_4.index t = ![(grid0.coords t 0).val, (grid0.coords t 1).val, 0] := by decide +kernel
theorem index5 : ∀ t : Fin cfg0.N, win0_5.index t = ![(grid0.coords t 0).val, (grid0.coords t 1).val, 0] := by decide +kernel

theorem lt_batch (t : Fin cfg0.N) : (grid0.coords t 0).val < 2 := (grid0.coords t 0).isLt
theorem lt_rows (t : Fin cfg0.N) (r : Fin 256) : (grid0.coords t 1).val * 256 + r.val < 3072 := by
  have h : (grid0.coords t 1).val < 12 := (grid0.coords t 1).isLt
  have := r.isLt
  omega

/-- The batch of a grid point. -/
def batch (t : Fin cfg0.N) : Fin 2 := ⟨_, lt_batch t⟩
/-- The row of the arrays that row `r` of a grid point's block is. -/
def rowAt (t : Fin cfg0.N) (r : Fin 256) : Fin 3072 := ⟨_, lt_rows t r⟩

theorem emb0 (t : Fin cfg0.N) (k : Fin 3) (j : Fin 3072) : (win0_0.blk t).view.emb (ix3 0 k j) = ix3 (batch t) k j := by
  blk_ext [index0, batch]
theorem emb1 (t : Fin cfg0.N) (r : Fin 256) (k : Fin 3) : (win0_1.blk t).view.emb (ix3 0 r k) = ix3 (batch t) (rowAt t r) k := by
  blk_ext [index1, batch, rowAt]
theorem emb2 (t : Fin cfg0.N) (j : Fin 3072) : (win0_2.blk t).view.emb (ix3 0 0 j) = ix3 (batch t) 0 j := by
  blk_ext [index2, batch]
theorem emb3 (t : Fin cfg0.N) (r : Fin 256) : (win0_3.blk t).view.emb (ix3 0 r 0) = ix3 (batch t) (rowAt t r) 0 := by
  blk_ext [index3, batch, rowAt]
theorem emb4 (t : Fin cfg0.N) (r : Fin 256) (s : Fin 32) : (win0_4.blk t).view.emb (ix3 0 r s) = ix3 (batch t) (rowAt t r) s := by
  blk_ext [index4, batch, rowAt]
theorem emb5 (t : Fin cfg0.N) (r : Fin 256) (s : Fin 32) : (win0_5.blk t).view.emb (ix3 0 r s) = ix3 (batch t) (rowAt t r) s := by
  blk_ext [index5, batch, rowAt]

variable (V : (c : Dev nD) → (b : Ref sig .tc) → Buf (Elt Ideal) ((c : Thread nD τ).loc b)) (c : Dev nD)
  (C : S2x3072x3.Idx → EReal) (M : S2x3072.Idx → EReal)

/-- What the region finds in the arrays it reads, in the words of the coordinates and the masks. -/
structure Entry0 : Prop where
  h0 : ∀ b j k, (V c main_v4 : S2x3x3072.Idx → EReal) (ix3 b k j) = C (ix3 b j k)
  h1 : (V c main_v0 : S2x3072x3.Idx → EReal) = C
  h2 : ∀ b j, (V c main_v5 : S2x1x3072.Idx → EReal) (ix3 b 0 j) = M (ix2 b j)
  h3 : ∀ b j, (V c main_v6 : S2x3072x1.Idx → EReal) (ix3 b j 0) = M (ix2 b j)
  fin : ∀ b i j, row C M b i j < ⊤

variable {V c C M}

theorem blk0 (h : Entry0 V c C M) (t : Fin cfg0.N) (k : Fin 3) (j : Fin 3072) :
    (iblk0 V c 0 t : Vec Ideal S1x3x3072 .f32) (ix3 0 k j) = C (ix3 (batch t) j k) := by
  unfold iblk0; blk_simp; rw [emb0]; exact h.h0 _ _ _
theorem blk1 (h : Entry0 V c C M) (t : Fin cfg0.N) (r : Fin 256) (k : Fin 3) :
    (iblk0 V c 1 t : Vec Ideal S1x256x3 .f32) (ix3 0 r k) = C (ix3 (batch t) (rowAt t r) k) := by
  unfold iblk0; blk_simp; rw [emb1]; exact congrFun h.h1 _
theorem blk2 (h : Entry0 V c C M) (t : Fin cfg0.N) (j : Fin 3072) :
    (iblk0 V c 2 t : Vec Ideal S1x1x3072 .f32) (ix3 0 0 j) = M (ix2 (batch t) j) := by
  unfold iblk0; blk_simp; rw [emb2]; exact h.h2 _ _
theorem blk3 (h : Entry0 V c C M) (t : Fin cfg0.N) (r : Fin 256) :
    (iblk0 V c 3 t : Vec Ideal S1x256x1 .f32) (ix3 0 r 0) = M (ix2 (batch t) (rowAt t r)) := by
  unfold iblk0; blk_simp; rw [emb3]; exact h.h3 _ _

theorem row_blk (h : Entry0 V c C M) (t : Fin cfg0.N) (r : Fin 256) (j : Fin 3072) :
    distOf (fun k => (iblk0 V c 1 t : Vec Ideal S1x256x3 .f32) (ix3 0 r k))
      (fun k => (iblk0 V c 0 t : Vec Ideal S1x3x3072 .f32) (ix3 0 k j))
      ((iblk0 V c 3 t : Vec Ideal S1x256x1 .f32) (ix3 0 r 0)) ((iblk0 V c 2 t : Vec Ideal S1x1x3072 .f32) (ix3 0 0 j))
      = row C M (batch t) (rowAt t r) j := by
  simp only [blk0 h, blk1 h, blk2 h, blk3 h]; rfl

theorem arr_vals (h : Entry0 V c C M) :
    (dat0 V c).arrAt 4 cfg0.N = (fun j => vals C M (j 0) (j 1) (j 2) : S2x3072x32.Idx → EReal) := by
  refine (dat0 V c).arrAt_eq_of_covers 4 _ (by decide +kernel) fun t hf y => ?_
  blk_simp
  rw [after0_4]
  change S1x256x32.Idx at y
  idx_vars y
  rw [Subsingleton.elim (α := Fin 1) y0 0, emb4]
  unfold outsAt0
  dsimp only
  rw [out_vals (x := row C M (batch t) (rowAt t y1)) (hxd := row_blk h t y1) (hx := h.fin _ _), blk3 h]
  rfl

theorem arr_idx (h : Entry0 V c C M) :
    (dat0 V c).arrAt 5 cfg0.N = (fun j => idxs C M (j 0) (j 1) (j 2) : S2x3072x32.Idx → BitVec 32) := by
  refine (dat0 V c).arrAt_eq_of_covers 5 _ (by decide +kernel) fun t hf y => ?_
  blk_simp
  rw [after0_5]
  change S1x256x32.Idx at y
  idx_vars y
  rw [Subsingleton.elim (α := Fin 1) y0 0, emb5]
  unfold outsAt0
  dsimp only
  rw [out_idx (x := row C M (batch t) (rowAt t y1)) (hxd := row_blk h t y1) (hx := h.fin _ _), blk3 h]
  rfl

end Cert.KernelIdeal.Final
-- ==== Proof.Reference.lean ====
module

public import proofs.«01_k».proof.Proof.Spec
public import proofs.«01_k».proof.Defs
public import proofs.«01_k».proof.Proof.Gen.KernelIdeal.Launch
public import proofs.«01_k».proof.Proof.Gen.ReferenceIdeal.Run
public import proofs.«01_k».proof.Proof.Gen.Pre_finite
public import Idealize.ShloMosaic.Lib.ReduceAll

/-!
# The reference's tables, and what the precondition gives
-/

@[expose] public section
noncomputable section
namespace Cert.Nearest
open Idealize.ShloMosaic Idealize.SL.Sem

theorem row_lt_top {C : (⟨3, ![2, 3072, 3]⟩ : Shape).Idx → EReal} (M : (⟨2, ![2, 3072]⟩ : Shape).Idx → EReal)
    (hC : ∀ j, ∃ r : ℝ, C j = (r : EReal)) (b : Fin 2) (i j : Fin 3072) : row C M b i j < ⊤ := by
  choose rC hC using hC
  obtain rfl : C = fun j => (rC j : EReal) := funext hC
  exact distOf_lt_top _ _ _ _

theorem along_last (b : Fin 2) (i : Fin 3072) (t : Fin 3072) (k : Fin 3072) :
    (ix3 b i t).along 2 k = ix3 b i k := by
  funext a; fin_cases a <;> rfl

theorem sortedFrom_eq (x : Fin 3072 → EReal) (t : Fin 32) (h : t.val < 3072) :
    sortedFrom (fun k k' => decide (-x k' < -x k)) ⟨t.val, h⟩ = nth x t := rfl

theorem cmp_gt (a b : EReal) : (FloatOps.cmpfTotal (F := Ideal) (φ := .f32) .gt a b == 1#1) = decide (b < a) := by
  rw [Ideal.cmpfTotal_def]
  by_cases h : b < a <;> simp [Ideal.cmp, CmpDirection.ordered, h]

theorem topK_sorted (D : FVec Ideal ⟨3, ![2, 3072, 3072]⟩ .f32) (b : Fin 2) (i : Fin 3072) (x : Fin 3072 → EReal)
    (hD : ∀ j, D (ix3 b i j) = -x j) (t : Fin 32) (ht : t.val < 3072) :
    sortedFrom (fun k k' => FloatOps.cmpfTotal (F := Ideal) (φ := .f32) .gt (D ((ix3 b i (⟨t.val, ht⟩ : Fin 3072)).along 2 k))
      (D ((ix3 b i (⟨t.val, ht⟩ : Fin 3072)).along 2 k')) == 1#1) ⟨t.val, ht⟩ = nth x t := by
  rw [← sortedFrom_eq x t ht]
  congr 1
  funext k k'
  have e : ∀ q : Fin 3072, D ((ix3 b i (⟨t.val, ht⟩ : Fin 3072)).along 2 q) = -x q :=
    fun q => (congrArg D (along_last b i _ q)).trans (hD q)
  exact (congrArg₂ (fun u v => (FloatOps.cmpfTotal (F := Ideal) (φ := .f32) .gt u v == 1#1)) (e k) (e k')).trans (cmp_gt _ _)

theorem topK_fst (D : FVec Ideal ⟨3, ![2, 3072, 3072]⟩ .f32) (h) (b : Fin 2) (i : Fin 3072) (x : Fin 3072 → EReal)
    (hD : ∀ j, D (ix3 b i j) = -x j) (t : Fin 32) :
    (Host.topK ⟨3, ![2, 3072, 32]⟩ 2 (FloatOps.cmpfTotal (F := Ideal) (φ := .f32) .gt) D h).1 (ix3 b i t) = -x (nth x t) := by
  unfold Host.topK Host.sort2
  pointwise []
  erw [topK_sorted D b i x hD t, along_last, hD]

theorem topK_snd (D : FVec Ideal ⟨3, ![2, 3072, 3072]⟩ .f32) (h) (b : Fin 2) (i : Fin 3072) (x : Fin 3072 → EReal)
    (hD : ∀ j, D (ix3 b i j) = -x j) (t : Fin 32) :
    (Host.topK ⟨3, ![2, 3072, 32]⟩ 2 (FloatOps.cmpfTotal (F := Ideal) (φ := .f32) .gt) D h).2 (ix3 b i t)
      = BitVec.ofNat 32 (nth x t).val := by
  unfold Host.topK Host.sort2
  pointwise []
  erw [topK_sorted D b i x hD t, along_last]
  rfl

theorem real_of_olt {x : EReal} (h : Ideal.cmp .olt (max x (-x)) (Ideal.ofBits .f32 0x7F800000#32) = 1#1) :
    ∃ r : ℝ, x = (r : EReal) := by
  refine exists_real ?_
  rw [ofBits_top] at h
  by_contra hn
  simp [Ideal.cmp, hn] at h

/-- The precondition: every coordinate is a real number. -/
theorem finite_coords {m : (ℓ : Loc Cert.KernelIdeal.nD Cert.KernelIdeal.τ Cert.KernelIdeal.sig) → Buf (Elt Ideal) ℓ}
    (h : Pre_KernelIdeal_finite m) (c : Dev Cert.KernelIdeal.nD) (i) :
    ∃ r : ℝ, (m ((c.tc : Thread Cert.KernelIdeal.nD Cert.KernelIdeal.τ).loc Cert.KernelIdeal.main_arg0) i : EReal) = (r : EReal) := by
  have e := congrFun (h c) ix0
  have hs : Subsingleton Cert.Pre_finite.S_.Idx := ⟨fun a b => funext fun k => k.elim0⟩
  exact real_of_olt (Host.reduce_andi_all _ _ _ _ _ e i)

end Cert.Nearest
-- ==== Proof.RefTables.lean ====
module

public import proofs.«01_k».proof.Proof.Reference
public import proofs.«01_k».proof.Proof.Launch

/-!
# The reference's two tables
-/

@[expose] public section
noncomputable section
namespace Cert.ReferenceIdeal.Value
open Idealize.ShloMosaic Idealize.SL.Sem
open Cert.Nearest Cert.ReferenceIdeal.Gen
open Cert.KernelIdeal.Final (coords masks)

/-- The spread mask at a node is the mask of the residue that owns the node. -/
theorem masks_apply (A : KernelIdeal.S2x256.Idx → EReal) (b : Fin 2) (j : Fin 3072) :
    masks A (ix2 b j) = A (ix2 b ⟨j.val / 12, by omega⟩) := by
  pointwise [masks]

set_option maxHeartbeats 4000000 in
/-- What the reference leaves, its two tables in the words of the specification. -/
theorem tables (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = (coords (m ((c.tc : Thread nD τ).loc main_arg0)) : S2x3072x3.Idx → EReal)
      ∧ r.2.mem ((c.tc : Thread nD τ).loc main_v3) = (masks (m ((c.tc : Thread nD τ).loc main_arg1)) : S2x3072.Idx → EReal)
      ∧ r.2.mem ((c.tc : Thread nD τ).loc main_v43) = res_main_v43 m c
      ∧ r.2.mem ((c.tc : Thread nD τ).loc main_v71) = (fun j => vals (coords (m ((c.tc : Thread nD τ).loc main_arg0))) (masks (m ((c.tc : Thread nD τ).loc main_arg1))) (j 0) (j 1) (j 2) : S2x3072x32.Idx → EReal)
      ∧ r.2.mem ((c.tc : Thread nD τ).loc main_v70) = (fun j => idxs (coords (m ((c.tc : Thread nD τ).loc main_arg0))) (masks (m ((c.tc : Thread nD τ).loc main_arg1))) (j 0) (j 1) (j 2) : S2x3072x32.Idx → BitVec 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ?_) (run m ρ)
  refine ⟨(h c).1, (h c).2.1, (h c).2.2.1, (h c).2.2.2.1.trans ?_, (h c).2.2.2.2.1.trans ?_, (h c).2.2.2.2.2⟩
  · clear h
    funext j
    change S2x3072x32.Idx at j
    idx_vars j
    show _ = vals (coords (m ((c.tc : Thread nD τ).loc main_arg0))) (masks (m ((c.tc : Thread nD τ).loc main_arg1))) j0 j1 j2
    pointwise []
    erw [topK_fst _ _ j0 j1 (row (coords (m ((c.tc : Thread nD τ).loc main_arg0))) (masks (m ((c.tc : Thread nD τ).loc main_arg1))) j0 j1) (by
      intro k; pointwise [row, distOf, coords, masks]; rw [Fin.sum_univ_three])]
    unfold vals
    simp only [neg_neg, masks_apply]
    rfl
  · clear h
    funext j
    change S2x3072x32.Idx at j
    idx_vars j
    show _ = idxs (coords (m ((c.tc : Thread nD τ).loc main_arg0))) (masks (m ((c.tc : Thread nD τ).loc main_arg1))) j0 j1 j2
    pointwise []
    erw [topK_snd _ _ j0 j1 (row (coords (m ((c.tc : Thread nD τ).loc main_arg0))) (masks (m ((c.tc : Thread nD τ).loc main_arg1))) j0 j1) (by
      intro k; pointwise [row, distOf, coords, masks]; rw [Fin.sum_univ_three])]
    unfold idxs
    simp only [neg_neg, masks_apply]
    rfl

end Cert.ReferenceIdeal.Value
-- ==== Proof.Encode.lean ====
module

public import proofs.«01_k».proof.Proof.Launch
public import proofs.«01_k».proof.Proof.Spec

/-!
# The encoding, and the second kernel's block of it
-/

@[expose] public section
noncomputable section
namespace Cert.Nearest
open Idealize.ShloMosaic

/-- The features of one batch normalised over its atoms, at atom `j` and channel `d`. -/
def enc (T : Fin 3072 → Fin 32 → EReal) (u : Fin 3072 → EReal) (g h : Fin 32 → EReal) (j : Fin 3072) (d : Fin 32) : EReal :=
  (Ideal.div
      (T j d * u j - Ideal.div (∑ k, T k d * u k * u k)
        (if ∑ k, u k = 0 then Ideal.ofBits .f32 0x3F800000#32 else ∑ k, u k))
      (Ideal.sqrt (Ideal.div
        (∑ k, (T k d * u k * u k - Ideal.div (∑ k, T k d * u k * u k)
            (if ∑ k, u k = 0 then Ideal.ofBits .f32 0x3F800000#32 else ∑ k, u k)) *
          (T k d * u k * u k - Ideal.div (∑ k, T k d * u k * u k)
            (if ∑ k, u k = 0 then Ideal.ofBits .f32 0x3F800000#32 else ∑ k, u k)))
        (if ∑ k, u k = 0 then Ideal.ofBits .f32 0x3F800000#32 else ∑ k, u k)
        + Ideal.ofBits .f32 0x3727C5AC#32))
    * g d + h d) * u j

end Cert.Nearest
namespace Cert.KernelIdeal.Final
open Idealize.ShloMosaic Idealize.ShloMosaic.TcCoe Idealize.SL.Sem
open Cert.KernelIdeal.Gen Cert.Nearest

set_option maxHeartbeats 1000000 in
theorem pay_enc (x0 : Vec Ideal S3072x32 .f32) (x1 : Vec Ideal S1x3072x1 .f32) (x2 x3 : Vec Ideal S1x32 .f32)
    (j : Fin 3072) (d : Fin 32) :
    k1_pay1 (k1_pay2 x1 x0 x2 x3) (ix3 0 j d) =
      enc (fun k d => x0 (ix2 k d)) (fun k => x1 (ix3 0 k 0)) (fun d => x2 (ix2 0 d)) (fun d => x3 (ix2 0 d)) j d := by
  pointwise [k1_pay1, k1_pay2, enc]

theorem indexE0 : ∀ t : Fin cfg1.N, win1_0.index t = ![0, 0] := by decide +kernel
theorem indexE1 : ∀ t : Fin cfg1.N, win1_1.index t = ![(grid1.coords t 0).val, 0, 0] := by decide +kernel
theorem indexE2 : ∀ t : Fin cfg1.N, win1_2.index t = ![0, 0] := by decide +kernel
theorem indexE3 : ∀ t : Fin cfg1.N, win1_3.index t = ![0, 0] := by decide +kernel
theorem indexE4 : ∀ t : Fin cfg1.N, win1_4.index t = ![(grid1.coords t 0).val, 0, 0] := by decide +kernel

/-- The batch of a grid point. -/
def batchE (t : Fin cfg1.N) : Fin 2 := ⟨(grid1.coords t 0).val, (grid1.coords t 0).isLt⟩

theorem embE0 (t : Fin cfg1.N) (k : Fin 3072) (d : Fin 32) : (win1_0.blk t).view.emb (ix2 k d) = ix2 k d := by
  blk_ext [indexE0]
theorem embE1 (t : Fin cfg1.N) (j : Fin 3072) : (win1_1.blk t).view.emb (ix3 0 j 0) = ix3 (batchE t) j 0 := by
  blk_ext [indexE1, batchE]
theorem embE2 (t : Fin cfg1.N) (d : Fin 32) : (win1_2.blk t).view.emb (ix2 0 d) = ix2 0 d := by
  blk_ext [indexE2]
theorem embE3 (t : Fin cfg1.N) (d : Fin 32) : (win1_3.blk t).view.emb (ix2 0 d) = ix2 0 d := by
  blk_ext [indexE3]
theorem embE4 (t : Fin cfg1.N) (j : Fin 3072) (d : Fin 32) : (win1_4.blk t).view.emb (ix3 0 j d) = ix3 (batchE t) j d := by
  blk_ext [indexE4, batchE]

variable (V : (c : Dev nD) → (b : Ref sig .tc) → Buf (Elt Ideal) ((c : Thread nD τ).loc b)) (c : Dev nD)
  (T : Fin 3072 → Fin 32 → EReal) (u : Fin 2 → Fin 3072 → EReal) (g h : Fin 32 → EReal)

/-- What the second region finds in the arrays it reads. -/
structure Entry1 : Prop where
  e0 : ∀ k d, (V c main_v10 : S3072x32.Idx → EReal) (ix2 k d) = T k d
  e1 : ∀ b j, (V c main_v6 : S2x3072x1.Idx → EReal) (ix3 b j 0) = u b j
  e2 : ∀ d, (V c main_v11 : S1x32.Idx → EReal) (ix2 0 d) = g d
  e3 : ∀ d, (V c main_v12 : S1x32.Idx → EReal) (ix2 0 d) = h d

variable {V c T u g h}

theorem blkE0 (e : Entry1 V c T u g h) (t : Fin cfg1.N) (k : Fin 3072) (d : Fin 32) :
    (iblk1 V c 0 t : Vec Ideal S3072x32 .f32) (ix2 k d) = T k d := by
  unfold iblk1; blk_simp; rw [embE0]; exact e.e0 _ _
theorem blkE1 (e : Entry1 V c T u g h) (t : Fin cfg1.N) (j : Fin 3072) :
    (iblk1 V c 1 t : Vec Ideal S1x3072x1 .f32) (ix3 0 j 0) = u (batchE t) j := by
  unfold iblk1; blk_simp; rw [embE1]; exact e.e1 _ _
theorem blkE2 (e : Entry1 V c T u g h) (t : Fin cfg1.N) (d : Fin 32) :
    (iblk1 V c 2 t : Vec Ideal S1x32 .f32) (ix2 0 d) = g d := by
  unfold iblk1; blk_simp; rw [embE2]; exact e.e2 _
theorem blkE3 (e : Entry1 V c T u g h) (t : Fin cfg1.N) (d : Fin 32) :
    (iblk1 V c 3 t : Vec Ideal S1x32 .f32) (ix2 0 d) = h d := by
  unfold iblk1; blk_simp; rw [embE3]; exact e.e3 _

theorem arr_enc (e : Entry1 V c T u g h) :
    (dat1 V c).arrAt 4 cfg1.N = (fun j => enc T (u (j 0)) g h (j 1) (j 2) : S2x3072x32.Idx → EReal) := by
  refine (dat1 V c).arrAt_eq_of_covers 4 _ (by decide +kernel) fun t hf y => ?_
  blk_simp
  change S1x3072x32.Idx at y
  idx_vars y
  rw [Subsingleton.elim (α := Fin 1) y0 0, embE4, after1_4]
  frame_out
  refine (pay_enc _ _ _ _ y1 y2).trans ?_
  simp only [blkE0 e, blkE1 e, blkE2 e, blkE3 e]
  rfl

end Cert.KernelIdeal.Final
-- ==== Proof.EncodeReference.lean ====
module

public import proofs.«01_k».proof.Proof.Encode
public import proofs.«01_k».proof.Proof.Gen.ReferenceIdeal.Run

/-!
# The reference's encoding
-/

@[expose] public section
noncomputable section
namespace Cert.ReferenceIdeal.Value
open Idealize.ShloMosaic Idealize.SL.Sem
open Cert.Nearest Cert.ReferenceIdeal.Gen

theorem twelve (i) : (id (constantI S_ 32 12#32) i) = 12#32 := rfl
theorem twelve_ne : IntOp.cmpi CmpIPredicate.eq (12#32) 0#32 = 0#1 := by decide
theorem select_no {e : Type} (a b : e) : Scalar.select 0#1 a b = b := rfl
theorem select_yes {e : Type} (a b : e) : Scalar.select 1#1 a b = a := rfl

theorem remsi_word {n : ℕ} (h : n < 3072) :
    IntOp.remsi ArithUnit.host (BitVec.ofNat 32 n) 12#32 = BitVec.ofNat 32 (n % 12) := by
  have h0 : (BitVec.ofNat 32 n).toInt = n := toInt_word (by omega)
  have h1 : (BitVec.ofNat 32 (n % 12)).toInt = ((n % 12 : ℕ) : ℤ) := toInt_word (by omega)
  unfold IntOp.remsi
  rw [if_neg (by simp [IntOp.SDivCorner])]
  apply BitVec.eq_of_toInt_eq
  rw [BitVec.toInt_srem, h0, h1, show (12#32).toInt = 12 by decide, Int.tmod_eq_emod_of_nonneg (by omega)]
  omega

theorem fixed_sign (n : ℕ) :
    Scalar.select (IntOp.andi (IntOp.cmpi .ne (IntOp.cmpi .slt (BitVec.ofNat 32 (n % 12)) 0#32) (IntOp.cmpi .slt 12#32 0#32))
        (IntOp.cmpi .ne (BitVec.ofNat 32 (n % 12)) 0#32))
      (IntOp.addi (BitVec.ofNat 32 (n % 12)) 12#32) (BitVec.ofNat 32 (n % 12)) = BitVec.ofNat 32 (n % 12) := by
  have := Nat.mod_lt n (show 0 < 12 by decide)
  generalize n % 12 = y at *
  interval_cases y <;> decide

theorem wrapped (n : ℕ) :
    Scalar.select (IntOp.cmpi .slt (BitVec.ofNat 32 (n % 12)) 0#32) (IntOp.addi (BitVec.ofNat 32 (n % 12)) 12#32)
      (BitVec.ofNat 32 (n % 12)) = BitVec.ofNat 32 (n % 12) := by
  have := Nat.mod_lt n (show 0 < 12 by decide)
  generalize n % 12 = y at *
  interval_cases y <;> decide

theorem in_range (n : ℕ) :
    IntOp.andi (IntOp.cmpi .sge (BitVec.ofNat 32 (n % 12)) 0#32) (IntOp.cmpi .sle (BitVec.ofNat 32 (n % 12)) 11#32) = 1#1 := by
  have := Nat.mod_lt n (show 0 < 12 by decide)
  generalize n % 12 = y at *
  interval_cases y <;> decide

theorem fold_one : Finset.fold IntOp.andi (1#1) (fun _ : Fin 1 => 1#1) Finset.univ = 1#1 := by decide

theorem gather_row (x : S12x32.Idx → EReal) (idx : IVec S3072x1 32) (n : Fin 3072) (d : Fin 32) (y : ℕ) (hy : y < 12)
    (hi : idx (ix2 n 0) = BitVec.ofNat 32 y) :
    Host.gather gather_S12x32_S3072x1_S3072x32_1_0_n_n_0_1_132 x idx (ix2 n d) = x (ix2 ⟨y, hy⟩ d) := by
  have hc : min (idx (ix2 n 0)).toInt.toNat 11 = y := by
    rw [hi]; interval_cases y <;> decide
  unfold Host.gather
  congr 1
  funext a
  refine Fin.ext ?_
  fin_cases a
  · refine Eq.trans ?_ hc
    simp [GatherDims.operandIdx, GatherDims.start, GatherDims.batchCoord, GatherDims.offCoord, GatherDims.sKept, gather_S12x32_S3072x1_S3072x32_1_0_n_n_0_1_132]
    refine (congrArg (_ + ·) (dif_neg (by decide))).trans ?_
    refine congrArg (fun q => min (idx q).toInt.toNat 11) (?_ : GatherDims.siIdx _ (ix2 n d) _ = ix2 n 0)
    funext b
    fin_cases b <;> rfl
  · show _ = d.val
    simp [GatherDims.operandIdx, GatherDims.start, GatherDims.batchCoord, GatherDims.offCoord, GatherDims.sKept, gather_S12x32_S3072x1_S3072x32_1_0_n_n_0_1_132]
    exact dif_pos (by decide)

/-- The reference's encoding, read at an index. -/
theorem enc_eq (m : (ℓ : Loc nD τ sig) → Buf (Elt Ideal) ℓ) (c : Dev nD) (b : Fin 2) (j : Fin 3072) (d : Fin 32) :
    (res_main_v43 (F := Ideal) m c : S2x3072x32.Idx → EReal) (ix3 b j d) =
      enc (fun k d => (m ((c.tc : Thread nD τ).loc main_arg2) : S12x32.Idx → EReal) (ix2 ⟨k.val % 12, Nat.mod_lt _ (by decide)⟩ d))
        (fun k => (m ((c.tc : Thread nD τ).loc main_arg1) : S2x256.Idx → EReal) (ix2 b ⟨k.val / 12, by omega⟩))
        (fun d => (m ((c.tc : Thread nD τ).loc main_arg3) : S1x1x32.Idx → EReal) (ix3 0 0 d))
        (fun d => (m ((c.tc : Thread nD τ).loc main_arg4) : S1x1x32.Idx → EReal) (ix3 0 0 d)) j d := by
  pointwise [res_main_v43]
  simp only [twelve, twelve_ne, select_no, remsi_word (Fin.isLt _), fixed_sign, wrapped, in_range, fold_one, select_yes]
  generalize hidx : broadcastInDim S3072x1 _ _ _ = idx
  have hi : ∀ n : Fin 3072, idx (ix2 n 0) = BitVec.ofNat 32 (n.val % 12) := by
    intro n
    rw [← hidx]
    pointwise []
    simp only [twelve, twelve_ne, select_no, remsi_word (Fin.isLt _), fixed_sign, wrapped]
  simp only [gather_row _ idx _ _ _ (Nat.mod_lt _ (by decide)) (hi _)]
  rfl

end Cert.ReferenceIdeal.Value
-- ==== Proof.Algebraic.lean ====
module

public import proofs.«01_k».proof.Proof.Arrays
public import proofs.«01_k».proof.Proof.RefTables
public import proofs.«01_k».proof.Proof.EncodeReference

/-!
# The value claim: both programs leave the same five results
-/

@[expose] public section
noncomputable section
namespace Cert.KernelIdeal.Final
open Idealize.ShloMosaic Idealize.ShloMosaic.TcCoe Idealize.SL.Sem
open Cert.KernelIdeal.Gen Cert.Nearest

theorem transposed (C : S2x3072x3.Idx → EReal) (b : Fin 2) (j : Fin 3072) (k : Fin 3) :
    transpose S2x3x3072 [0, 2, 1] C transposes_S2x3072x3_S2x3x3072_0_2_1 (ix3 b k j) = C (ix3 b j k) := by
  pointwise []

theorem mask_cols (M : S2x3072.Idx → EReal) (b : Fin 2) (j : Fin 3072) :
    broadcastInDim S2x1x3072 ![0, 2] bcast_S2x3072_S2x1x3072_0_2 M (ix3 b 0 j) = M (ix2 b j) := by
  pointwise []

theorem mask_rows (M : S2x3072.Idx → EReal) (b : Fin 2) (j : Fin 3072) :
    broadcastInDim S2x3072x1 ![0, 1] bcast_S2x3072_S2x3072x1_0_1 M (ix3 b j 0) = M (ix2 b j) := by
  pointwise []

theorem table_apply (A : S12x32.Idx → EReal) (k : Fin 3072) (d : Fin 32) :
    shapeCast S3072x32 (broadcastInDim S256x12x1x32 ![0, 1, 2, 3] bcast_S1x12x1x32_S256x12x1x32_0_1_2_3
      (shapeCast S1x12x1x32 A shapeCasts_S12x32_S1x12x1x32)) shapeCasts_S256x12x1x32_S3072x32 (ix2 k d)
      = A (ix2 ⟨k.val % 12, Nat.mod_lt _ (by decide)⟩ d) := by
  pointwise []

theorem flat_apply (A : S1x1x32.Idx → EReal) (d : Fin 32) :
    shapeCast S1x32 A shapeCasts_S1x1x32_S1x32 (ix2 0 d) = A (ix3 0 0 d) := by
  pointwise []

variable {m : (ℓ : Loc nD τ sig) → Buf (Elt Ideal) ℓ} (ρ : Dev nD → PrngReg)

theorem entry0 (h : Pre_KernelIdeal_finite m) (c : Dev nD) :
    Entry0 (V1 m ρ) c (coords (m ((c.tc : Thread nD τ).loc main_arg0))) (masks (m ((c.tc : Thread nD τ).loc main_arg1))) where
  h0 b j k := (congrFun (W1_v4 m ρ c) (ix3 b k j)).trans ((transposed _ b j k).trans (congrFun (W1_v0 m ρ c) _))
  h1 := W1_v0 m ρ c
  h2 b j := (congrFun (W1_v5 m ρ c) (ix3 b 0 j)).trans ((mask_cols _ b j).trans (congrFun (W1_v3 m ρ c) _))
  h3 b j := (congrFun (W1_v6 m ρ c) (ix3 b j 0)).trans ((mask_rows _ b j).trans (congrFun (W1_v3 m ρ c) _))
  fin b i j := row_lt_top _ (fun _ => finite_coords h c _) b i j

theorem entry1 (c : Dev nD) :
    Entry1 (V3 m ρ) c
      (fun k d => (m ((c.tc : Thread nD τ).loc main_arg2) : S12x32.Idx → EReal) (ix2 ⟨k.val % 12, Nat.mod_lt _ (by decide)⟩ d))
      (fun b k => (m ((c.tc : Thread nD τ).loc main_arg1) : S2x256.Idx → EReal) (ix2 b ⟨k.val / 12, by omega⟩))
      (fun d => (m ((c.tc : Thread nD τ).loc main_arg3) : S1x1x32.Idx → EReal) (ix3 0 0 d))
      (fun d => (m ((c.tc : Thread nD τ).loc main_arg4) : S1x1x32.Idx → EReal) (ix3 0 0 d)) where
  e0 k d := (congrFun (W3_v10 m ρ c) (ix2 k d)).trans
    ((table_apply _ k d).trans (congrFun (W2_args m ρ c main_arg2 (by decide)) _))
  e1 b j := (congrFun ((W3_v6 m ρ c).trans (W1_v6 m ρ c)) (ix3 b j 0)).trans
    ((mask_rows _ b j).trans ((congrFun (W1_v3 m ρ c) _).trans (Cert.ReferenceIdeal.Value.masks_apply _ b j)))
  e2 d := (congrFun (W3_v11 m ρ c) (ix2 0 d)).trans
    ((flat_apply _ d).trans (congrFun (W2_args m ρ c main_arg3 (by decide)) _))
  e3 d := (congrFun (W3_v12 m ρ c) (ix2 0 d)).trans
    ((flat_apply _ d).trans (congrFun (W2_args m ρ c main_arg4 (by decide)) _))

/-- The five results, and the arguments as launched. -/
theorem algebraic : Cert.algebraic_KernelIdeal_ReferenceIdeal_pre_finite := by
  intro m g m' g' hpre hargs
  refine ⟨fun c => coords (m ((c.tc : Thread nD τ).loc main_arg0)), fun c => masks (m ((c.tc : Thread nD τ).loc main_arg1)),
    fun c => (fun j => enc
      (fun k d => (m ((c.tc : Thread nD τ).loc main_arg2) : S12x32.Idx → EReal) (ix2 ⟨k.val % 12, Nat.mod_lt _ (by decide)⟩ d))
      (fun k => (m ((c.tc : Thread nD τ).loc main_arg1) : S2x256.Idx → EReal) (ix2 (j 0) ⟨k.val / 12, by omega⟩))
      (fun d => (m ((c.tc : Thread nD τ).loc main_arg3) : S1x1x32.Idx → EReal) (ix3 0 0 d))
      (fun d => (m ((c.tc : Thread nD τ).loc main_arg4) : S1x1x32.Idx → EReal) (ix3 0 0 d)) (j 1) (j 2) : S2x3072x32.Idx → EReal),
    fun c => (fun j => vals (coords (m ((c.tc : Thread nD τ).loc main_arg0))) (masks (m ((c.tc : Thread nD τ).loc main_arg1)))
      (j 0) (j 1) (j 2) : S2x3072x32.Idx → EReal),
    fun c => (fun j => idxs (coords (m ((c.tc : Thread nD τ).loc main_arg0))) (masks (m ((c.tc : Thread nD τ).loc main_arg1)))
      (j 0) (j 1) (j 2) : S2x3072x32.Idx → BitVec 32), ?_, ?_⟩
  · refine (θ_run (Cert.KernelIdeal.defs (F := Ideal)) _ _).mono (fun r h c => ?_) (run (F := Ideal) m g)
    have H := h c
    exact ⟨(H _ (mem_uc main_v0 (by decide))).trans ((W4_v0 m g c).trans (W1_v0 m g c)),
      (H _ (mem_uc main_v3 (by decide))).trans ((W4_v3 m g c).trans (W1_v3 m g c)),
      (H _ (mem_uc main_v13 (by decide))).trans ((W4_encode m g c).trans (arr_enc (entry1 g c) :)),
      (H _ (mem_uc main_v7_0 (by decide))).trans ((W4_vals m g c).trans (arr_vals (entry0 g hpre c))),
      (H _ (mem_uc main_v7_1 (by decide))).trans ((W4_idx m g c).trans (arr_idx (entry0 g hpre c))),
      (H _ (mem_uc main_arg0 (by decide))).trans (W4_main_arg0 m g c),
      (H _ (mem_uc main_arg1 (by decide))).trans (W4_main_arg1 m g c),
      (H _ (mem_uc main_arg2 (by decide))).trans (W4_main_arg2 m g c),
      (H _ (mem_uc main_arg3 (by decide))).trans (W4_main_arg3 m g c),
      (H _ (mem_uc main_arg4 (by decide))).trans (W4_main_arg4 m g c)⟩
  · refine (θ_run (Cert.ReferenceIdeal.defs (F := Ideal)) _ _).mono (fun r h c => ?_) (Cert.ReferenceIdeal.Value.tables m' g')
    obtain ⟨a0, a1, a2, a3, a4⟩ := hargs c
    have H := h c
    refine ⟨H.1.trans ?_, H.2.1.trans ?_, H.2.2.1.trans ?_, H.2.2.2.1.trans ?_, H.2.2.2.2.1.trans ?_, H.2.2.2.2.2⟩
    · rw [a0]
    · rw [a1]
    · funext j
      change S2x3072x32.Idx at j
      idx_vars j
      refine (Cert.ReferenceIdeal.Value.enc_eq m' c j0 j1 j2).trans ?_
      rw [a1, a2, a3, a4]
    · rw [a0, a1]
    · rw [a0, a1]

end Cert.KernelIdeal.Final
-- ==== Proof.lean ====
module

public import proofs.«01_k».proof.Proof.Gen.ReferenceIdeal.Run
public import proofs.«01_k».proof.Proof.Gen.KernelIdeal.Frame
public import proofs.«01_k».proof.Proof.Gen.Kernel.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Parts
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  Cert.Parts.frame_kernel, Cert.Parts.frame_ideal, Cert.Parts.frame_ideal_finite, Cert.Parts.frame_reference,
  Cert.Parts.frame_reference_finite, Cert.Parts.preserves, Cert.KernelIdeal.Final.algebraic⟩

end Cert.Proof

end
